-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qk_scale" .f32 0x3E0293EE#32 (((11863283 * 134217728⁻¹) * (Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  IdealRules.named_const.Statement Cert.Kernel9Ideal.κ "neg_log2e" .f32 0xBFB8AA3B#32 ((-((Real.log 2)⁻¹) : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_v48) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v9) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v25) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v7)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v7) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "neg_log2e" .f32 0xBFB8AA3B#32 ((-((Real.log 2)⁻¹) : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  IdealRules.named_const.Statement Cert.Kernel22Ideal.κ "neg_log2e" .f32 0xBFB8AA3B#32 ((-((Real.log 2)⁻¹) : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v6)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v6) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_logits_finite.lean ====
abbrev S8192x4096 : Shape := ⟨2, ![8192, 4096]⟩
abbrev S4x2048x32 : Shape := ⟨3, ![4, 2048, 32]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4x2048x32 : S_.BroadcastsInDim S4x2048x32 (![] : Fin 0 → Fin S4x2048x32.rank)
  reducesTo_S4x2048x32_S_d0_1_2 : S4x2048x32.ReducesTo [0, 1, 2] S_

variable [Facts]

def fn {F : FTy → Type} [FloatOps F] (main_arg0 : FVec F S8192x4096 .bf16) (main_arg1 : FVec F S8192x4096 .bf16) (main_arg2 : FVec F S8192x4096 .bf16) (main_arg3 : FVec F S8192x4096 .bf16) (main_arg4 : FVec F S4x2048x32 .f32) : IVec S_ 1 :=
  let main_v0 : FVec F S8192x4096 .f32 := (extf .f32 · bitsLt_bf16_f32) main_arg0
  let main_v1 : FVec F S8192x4096 .f32 := (extf .f32 · bitsLt_bf16_f32) main_arg1
  let main_v2 : FVec F S8192x4096 .f32 := Host.absf main_v0
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  let main_v6 : FVec F S8192x4096 .f32 := Host.absf main_v1
  let main_cst_0 : FVec F S_ .f32 := constant S_ .f32 0x7F800000#32
  let main_v7 : FVec F S8192x4096 .f32 := broadcastInDim S8192x4096 ![] bcast_S_S8192x4096 main_cst_0
  let main_v8 : IVec S8192x4096 1 := cmpf .olt main_v6 main_v7
  let main_c_1 : IVec S_ 1 := constantI S_ 1 1#1
  let main_v9 : IVec S_ 1 := (fun x v => Host.reduce IntOp.andi x v reducesTo_S8192x4096_S_d0_1 h_S_) main_v8 main_c_1
  let main_v10 : IVec S_ 1 := andi main_v5 main_v9
  let main_v11 : FVec F S4x2048x32 .f32 := Host.absf main_arg4
  let main_cst_2 : FVec F S_ .f32 := constant S_ .f32 0x7F800000#32
  let main_v12 : FVec F S4x2048x32 .f32 := broadcastInDim S4x2048x32 ![] bcast_S_S4x2048x32 main_cst_2
  let main_v13 : IVec S4x2048x32 1 := cmpf .olt main_v11 main_v12
  let main_c_3 : IVec S_ 1 := constantI S_ 1 1#1
  let main_v14 : IVec S_ 1 := (fun x v => Host.reduce IntOp.andi x v reducesTo_S4x2048x32_S_d0_1_2 h_S_) main_v13 main_c_3
  let main_v15 : IVec S_ 1 := andi main_v10 main_v14
  main_v15
-- ==== Kernel.lean ====
abbrev S8192x4096 : Shape := ⟨2, ![8192, 4096]⟩
abbrev S4x2048x32 : Shape := ⟨3, ![4, 2048, 32]⟩
abbrev S4x32x2048 : Shape := ⟨3, ![4, 32, 2048]⟩
abbrev S4x32x4x1x512 : Shape := ⟨5, ![4, 32, 4, 1, 512]⟩
abbrev S2048x128 : Shape := ⟨2, ![2048, 128]⟩
abbrev S1x1x4x1x512 : Shape := ⟨5, ![1, 1, 4, 1, 512]⟩
abbrev S512x128 : Shape := ⟨2, ![512, 128]⟩
abbrev S1x1x1x1x512 : Shape := ⟨5, ![1, 1, 1, 1, 512]⟩
abbrev S1x512 : Shape := ⟨2, ![1, 512]⟩
abbrev S128x512 : Shape := ⟨2, ![128, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S8192x4096, .bf16⟩
  | .hbm, ⟨4, _⟩ => ⟨S4x2048x32, .f32⟩
  | .hbm, ⟨5, _⟩ => ⟨S4x32x2048, .f32⟩
  | .hbm, ⟨6, _⟩ => ⟨S4x32x4x1x512, .f32⟩
  | .hbm, ⟨7, _⟩ => ⟨S8192x4096, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x1x4x1x512, .f32⟩
  | .local _ .vmem, ⟨9, _⟩ => ⟨S1x1x4x1x512, .f32⟩
  | .local _ .vmem, ⟨10, _⟩ => ⟨S2048x128, .bf16⟩
  | .local _ .vmem, ⟨11, _⟩ => ⟨S2048x128, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "qk_scale" => some (((11863283 * 134217728⁻¹) * (Real.log 2)⁻¹ : ℝ) : EReal)
  | _ => none
-- ==== ReferenceIdeal.lean ====
abbrev S8192x4096 : Shape := ⟨2, ![8192, 4096]⟩
abbrev S4x2048x32 : Shape := ⟨3, ![4, 2048, 32]⟩
abbrev S4x2048x32x128 : Shape := ⟨4, ![4, 2048, 32, 128]⟩
abbrev S4x32x2048x2048 : Shape := ⟨4, ![4, 32, 2048, 2048]⟩
abbrev S_ : Shape := ⟨0, ![]⟩
abbrev S4x32x2048 : Shape := ⟨3, ![4, 32, 2048]⟩
abbrev S4x32x2048x1 : Shape := ⟨4, ![4, 32, 2048, 1]⟩
abbrev S4x32x1x2048 : Shape := ⟨4, ![4, 32, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x32x128x2048 : Shape := ⟨4, ![4, 32, 128, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x4096, .bf16⟩
  | .hbm, ⟨2, _⟩ => ⟨S8192x4096, .bf16⟩
  | .hbm, ⟨3, _⟩ => ⟨S8192x4096, .bf16⟩
  | .hbm, ⟨4, _⟩ => ⟨S4x2048x32, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4x2048x32x128, .f32⟩
  | .hbm, ⟨10, _⟩ => ⟨S4x2048x32x128, .f32⟩
  | .hbm, ⟨11, _⟩ => ⟨S4x2048x32x128, .f32⟩
  | .hbm, ⟨12, _⟩ => ⟨S4x32x2048x2048, .f32⟩
  | .hbm, ⟨13, _⟩ => ⟨S_, .f32⟩
  | .hbm, ⟨14, _⟩ => ⟨S4x32x2048x2048, .f32⟩
  | .hbm, ⟨15, _⟩ => ⟨S4x32x2048x2048, .f32⟩
  | .hbm, ⟨16, _⟩ => ⟨S4x32x2048, .f32⟩
  | .hbm, ⟨17, _⟩ => ⟨S4x32x2048x1, .f32⟩
  | .hbm, ⟨18, _⟩ => ⟨S4x32x2048x2048, .f32⟩
  | .hbm, ⟨19, _⟩ => ⟨S4x32x2048x2048, .f32⟩
  | .hbm, ⟨20, _⟩ => ⟨S4x32x2048, .f32⟩
  | .hbm, ⟨21, _⟩ => ⟨S4x32x1x2048, .f32⟩
  | .hbm, ⟨22, _⟩ => ⟨S4x32x2048x2048, .f32⟩
  | .hbm, ⟨23, _⟩ => ⟨S4x32x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S1x1x2048x2048, .i1⟩
  | .hbm, ⟨31, _⟩ => ⟨S_, .f32⟩
  | .hbm, ⟨32, _⟩ => ⟨S_, .f32⟩
  | .hbm, ⟨33, _⟩ => ⟨S4x32x2048x2048, .i1⟩
  | .hbm, ⟨34, _⟩ => ⟨S4x32x2048x2048, .f32⟩
  | .hbm, ⟨35, _⟩ => ⟨S4x32x2048x2048, .f32⟩
  | .hbm, ⟨36, _⟩ => ⟨S_, .f32⟩
  | .hbm, ⟨37, _⟩ => ⟨S4x32x2048, .f32⟩
  | .hbm, ⟨38, _⟩ => ⟨S_, .f32⟩
  | .hbm, ⟨39, _⟩ => ⟨S4x32x2048, .f32⟩
  | .hbm, ⟨40, _⟩ => ⟨S4x32x2048, .f32⟩
  | .hbm, ⟨41, _⟩ => ⟨S4x32x2048x1, .f32⟩
  | .hbm, ⟨42, _⟩ => ⟨S4x32x2048x2048, .f32⟩
  | .hbm, ⟨43, _⟩ => ⟨S4x32x2048x2048, .f32⟩
  | .hbm, ⟨44, _⟩ => ⟨S4x32x2048x2048, .f32⟩
  | .hbm, ⟨45, _⟩ => ⟨S_, .f32⟩
  | .hbm, ⟨46, _⟩ => ⟨S4x32x2048, .f32⟩
  | .hbm, ⟨47, _⟩ => ⟨S4x32x2048x1, .f32⟩
  | .hbm, ⟨48, _⟩ => ⟨S4x32x2048x2048, .f32⟩
  | .hbm, ⟨49, _⟩ => ⟨S4x32x2048x2048, .f32⟩
  | .hbm, ⟨50, _⟩ => ⟨S4x32x128x2048, .f32⟩
  | .hbm, ⟨51, _⟩ => ⟨S4x2048x32x128, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S8192x4096, .f32⟩
  | .hbm, ⟨62, _⟩ => ⟨S8192x4096, .f32⟩
  | .hbm, ⟨63, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel2.lean ====
abbrev S8192x4096 : Shape := ⟨2, ![8192, 4096]⟩
abbrev S2x4096x18560 : Shape := ⟨3, ![2, 4096, 18560]⟩
abbrev S8192x8192 : Shape := ⟨2, ![8192, 8192]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x18560, .f32⟩
  | .hbm, ⟨2, _⟩ => ⟨S2x4096x18560, .bf16⟩
  | .hbm, ⟨3, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S2x4096x18560 : Shape := ⟨3, ![2, 4096, 18560]⟩
abbrev S1x4096x18560 : Shape := ⟨3, ![1, 4096, 18560]⟩
abbrev S4096x18560 : Shape := ⟨2, ![4096, 18560]⟩
abbrev S8192x18560 : Shape := ⟨2, ![8192, 18560]⟩
abbrev S8192x8192 : Shape := ⟨2, ![8192, 8192]⟩
abbrev S8192x10240 : Shape := ⟨2, ![8192, 10240]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x18560, .f32⟩
  | .hbm, ⟨2, _⟩ => ⟨S8192x4096, .f32⟩
  | .hbm, ⟨3, _⟩ => ⟨S1x4096x18560, .f32⟩
  | .hbm, ⟨4, _⟩ => ⟨S4096x18560, .f32⟩
  | .hbm, ⟨5, _⟩ => ⟨S8192x18560, .f32⟩
  | .hbm, ⟨6, _⟩ => ⟨S8192x8192, .f32⟩
  | .hbm, ⟨7, _⟩ => ⟨S8192x10240, .f32⟩
  | .hbm, ⟨8, _⟩ => ⟨S8192x128, .f32⟩
  | .hbm, ⟨9, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S2x4096x16416 : Shape := ⟨3, ![2, 4096, 16416]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x4096x16416, .bf16⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S8192x16416 : Shape := ⟨2, ![8192, 16416]⟩
abbrev S8192x32 : Shape := ⟨2, ![8192, 32]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S8192x4096, .f32⟩
  | .hbm, ⟨3, _⟩ => ⟨S1x4096x16416, .f32⟩
  | .hbm, ⟨4, _⟩ => ⟨S4096x16416, .f32⟩
  | .hbm, ⟨5, _⟩ => ⟨S8192x16416, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x32, .f32⟩
  | .hbm, ⟨11, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel4.lean ====
abbrev S8192x4096 : Shape := ⟨2, ![8192, 4096]⟩
abbrev S2x4096x16416 : Shape := ⟨3, ![2, 4096, 16416]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x4096x16416, .bf16⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S8192x16416 : Shape := ⟨2, ![8192, 16416]⟩
abbrev S8192x32 : Shape := ⟨2, ![8192, 32]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S8192x4096, .f32⟩
  | .hbm, ⟨3, _⟩ => ⟨S1x4096x16416, .f32⟩
  | .hbm, ⟨4, _⟩ => ⟨S4096x16416, .f32⟩
  | .hbm, ⟨5, _⟩ => ⟨S8192x16416, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x32, .f32⟩
  | .hbm, ⟨11, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel5.lean ====
abbrev S8192x8192 : Shape := ⟨2, ![8192, 8192]⟩
abbrev S2x8192x4096 : Shape := ⟨3, ![2, 8192, 4096]⟩
abbrev S8192x4096 : Shape := ⟨2, ![8192, 4096]⟩
abbrev S4x4096 : Shape := ⟨2, ![4, 4096]⟩
abbrev S4x1x4096 : Shape := ⟨3, ![4, 1, 4096]⟩
abbrev S512x8192 : Shape := ⟨2, ![512, 8192]⟩
abbrev S1x8192x512 : Shape := ⟨3, ![1, 8192, 512]⟩
abbrev S512x512 : Shape := ⟨2, ![512, 512]⟩
abbrev S1x1x512 : Shape := ⟨3, ![1, 1, 512]⟩
abbrev S8192x512 : Shape := ⟨2, ![8192, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x8192, .bf16⟩
  | .hbm, ⟨1, _⟩ => ⟨S2x8192x4096, .f32⟩
  | .hbm, ⟨2, _⟩ => ⟨S8192x4096, .f32⟩
  | .hbm, ⟨3, _⟩ => ⟨S4x4096, .f32⟩
  | .hbm, ⟨4, _⟩ => ⟨S2x8192x4096, .bf16⟩
  | .hbm, ⟨5, _⟩ => ⟨S4x1x4096, .f32⟩
  | .hbm, ⟨6, _⟩ => ⟨S8192x4096, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x8192 : Shape := ⟨2, ![8192, 8192]⟩
abbrev S2x8192x4096 : Shape := ⟨3, ![2, 8192, 4096]⟩
abbrev S8192x4096 : Shape := ⟨2, ![8192, 4096]⟩
abbrev S4x4096 : Shape := ⟨2, ![4, 4096]⟩
abbrev S4x2048x8192 : Shape := ⟨3, ![4, 2048, 8192]⟩
abbrev S1x8192x4096 : Shape := ⟨3, ![1, 8192, 4096]⟩
abbrev S4x2048x4096 : Shape := ⟨3, ![4, 2048, 4096]⟩
abbrev S4x1x4096 : Shape := ⟨3, ![4, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x8192x4096, .f32⟩
  | .hbm, ⟨2, _⟩ => ⟨S8192x4096, .f32⟩
  | .hbm, ⟨3, _⟩ => ⟨S4x4096, .f32⟩
  | .hbm, ⟨4, _⟩ => ⟨S8192x8192, .f32⟩
  | .hbm, ⟨5, _⟩ => ⟨S4x2048x8192, .f32⟩
  | .hbm, ⟨6, _⟩ => ⟨S1x8192x4096, .f32⟩
  | .hbm, ⟨7, _⟩ => ⟨S8192x4096, .f32⟩
  | .hbm, ⟨8, _⟩ => ⟨S4x2048x4096, .f32⟩
  | .hbm, ⟨9, _⟩ => ⟨S4x2048x4096, .f32⟩
  | .hbm, ⟨10, _⟩ => ⟨S4x1x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S8192x4096 : Shape := ⟨2, ![8192, 4096]⟩
abbrev S2x4096x4096 : Shape := ⟨3, ![2, 4096, 4096]⟩
abbrev S4x4096 : Shape := ⟨2, ![4, 4096]⟩
abbrev S4x1x4096 : Shape := ⟨3, ![4, 1, 4096]⟩
abbrev S1024x4096 : Shape := ⟨2, ![1024, 4096]⟩
abbrev S1x4096x1024 : Shape := ⟨3, ![1, 4096, 1024]⟩
abbrev S1024x1024 : Shape := ⟨2, ![1024, 1024]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S4x4096, .f32⟩
  | .hbm, ⟨4, _⟩ => ⟨S2x4096x4096, .bf16⟩
  | .hbm, ⟨5, _⟩ => ⟨S4x1x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x4096 : Shape := ⟨2, ![8192, 4096]⟩
abbrev S2x4096x4096 : Shape := ⟨3, ![2, 4096, 4096]⟩
abbrev S4x4096 : Shape := ⟨2, ![4, 4096]⟩
abbrev S4x2048x4096 : Shape := ⟨3, ![4, 2048, 4096]⟩
abbrev S1x4096x4096 : Shape := ⟨3, ![1, 4096, 4096]⟩
abbrev S4096x4096 : Shape := ⟨2, ![4096, 4096]⟩
abbrev S4x1x4096 : Shape := ⟨3, ![4, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S4x4096, .f32⟩
  | .hbm, ⟨4, _⟩ => ⟨S8192x4096, .f32⟩
  | .hbm, ⟨5, _⟩ => ⟨S4x2048x4096, .f32⟩
  | .hbm, ⟨6, _⟩ => ⟨S1x4096x4096, .f32⟩
  | .hbm, ⟨7, _⟩ => ⟨S4096x4096, .f32⟩
  | .hbm, ⟨8, _⟩ => ⟨S4x2048x4096, .f32⟩
  | .hbm, ⟨9, _⟩ => ⟨S4x2048x4096, .f32⟩
  | .hbm, ⟨10, _⟩ => ⟨S4x1x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S8192x4096 : Shape := ⟨2, ![8192, 4096]⟩
abbrev S2x4096x16416 : Shape := ⟨3, ![2, 4096, 16416]⟩
abbrev S2x8192x4096 : Shape := ⟨3, ![2, 8192, 4096]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x8192x4096, .f32⟩
  | .hbm, ⟨3, _⟩ => ⟨S2x4096x16416, .bf16⟩
  | .hbm, ⟨4, _⟩ => ⟨S2x8192x4096, .f32⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x4096 : Shape := ⟨2, ![8192, 4096]⟩
abbrev S2x4096x16416 : Shape := ⟨3, ![2, 4096, 16416]⟩
abbrev S2x8192x4096 : Shape := ⟨3, ![2, 8192, 4096]⟩
abbrev S1x4096x16416 : Shape := ⟨3, ![1, 4096, 16416]⟩
abbrev S4096x16416 : Shape := ⟨2, ![4096, 16416]⟩
abbrev S8192x16416 : Shape := ⟨2, ![8192, 16416]⟩
abbrev S8192x32 : Shape := ⟨2, ![8192, 32]⟩
abbrev S1x8192x4096 : Shape := ⟨3, ![1, 8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x8192x4096, .f32⟩
  | .hbm, ⟨3, _⟩ => ⟨S8192x4096, .f32⟩
  | .hbm, ⟨4, _⟩ => ⟨S1x4096x16416, .f32⟩
  | .hbm, ⟨5, _⟩ => ⟨S4096x16416, .f32⟩
  | .hbm, ⟨6, _⟩ => ⟨S8192x16416, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x32, .f32⟩
  | .hbm, ⟨12, _⟩ => ⟨S1x8192x4096, .f32⟩
  | .hbm, ⟨13, _⟩ => ⟨S8192x4096, .f32⟩
  | .hbm, ⟨14, _⟩ => ⟨S1x8192x4096, .f32⟩
  | .hbm, ⟨15, _⟩ => ⟨S1x8192x4096, .f32⟩
  | .hbm, ⟨16, _⟩ => ⟨S2x8192x4096, .f32⟩
  | .hbm, ⟨17, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel8.lean ====
abbrev S8192x4096 : Shape := ⟨2, ![8192, 4096]⟩
abbrev S2x4096x16416 : Shape := ⟨3, ![2, 4096, 16416]⟩
abbrev S2x8192x4096 : Shape := ⟨3, ![2, 8192, 4096]⟩
abbrev S1024x4096 : Shape := ⟨2, ![1024, 4096]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x8192x4096, .f32⟩
  | .hbm, ⟨3, _⟩ => ⟨S2x4096x16416, .bf16⟩
  | .hbm, ⟨4, _⟩ => ⟨S2x8192x4096, .f32⟩
  | .hbm, ⟨5, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x4096 : Shape := ⟨2, ![8192, 4096]⟩
abbrev S2x4096x16416 : Shape := ⟨3, ![2, 4096, 16416]⟩
abbrev S2x8192x4096 : Shape := ⟨3, ![2, 8192, 4096]⟩
abbrev S1x4096x16416 : Shape := ⟨3, ![1, 4096, 16416]⟩
abbrev S4096x16416 : Shape := ⟨2, ![4096, 16416]⟩
abbrev S8192x16416 : Shape := ⟨2, ![8192, 16416]⟩
abbrev S8192x32 : Shape := ⟨2, ![8192, 32]⟩
abbrev S1x8192x4096 : Shape := ⟨3, ![1, 8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x8192x4096, .f32⟩
  | .hbm, ⟨3, _⟩ => ⟨S8192x4096, .f32⟩
  | .hbm, ⟨4, _⟩ => ⟨S1x4096x16416, .f32⟩
  | .hbm, ⟨5, _⟩ => ⟨S4096x16416, .f32⟩
  | .hbm, ⟨6, _⟩ => ⟨S8192x16416, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x32, .f32⟩
  | .hbm, ⟨12, _⟩ => ⟨S1x8192x4096, .f32⟩
  | .hbm, ⟨13, _⟩ => ⟨S8192x4096, .f32⟩
  | .hbm, ⟨14, _⟩ => ⟨S1x8192x4096, .f32⟩
  | .hbm, ⟨15, _⟩ => ⟨S1x8192x4096, .f32⟩
  | .hbm, ⟨16, _⟩ => ⟨S2x8192x4096, .f32⟩
  | .hbm, ⟨17, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel9.lean ====
abbrev S8192x4096 : Shape := ⟨2, ![8192, 4096]⟩
abbrev S2x4096x18560 : Shape := ⟨3, ![2, 4096, 18560]⟩
abbrev S2x4x10240 : Shape := ⟨3, ![2, 4, 10240]⟩
abbrev S2x10240 : Shape := ⟨2, ![2, 10240]⟩
abbrev S1x4x10240 : Shape := ⟨3, ![1, 4, 10240]⟩
abbrev S4x10240 : Shape := ⟨2, ![4, 10240]⟩
abbrev S1x10240 : Shape := ⟨2, ![1, 10240]⟩
abbrev S10240 : Shape := ⟨1, ![10240]⟩
abbrev S8192x10240 : Shape := ⟨2, ![8192, 10240]⟩
abbrev S8x8x10240 : Shape := ⟨3, ![8, 8, 10240]⟩
abbrev S1024x4096 : Shape := ⟨2, ![1024, 4096]⟩
abbrev S1x4096x1024 : Shape := ⟨3, ![1, 4096, 1024]⟩
abbrev S4x1024 : Shape := ⟨2, ![4, 1024]⟩
abbrev S1x1024 : Shape := ⟨2, ![1, 1024]⟩
abbrev S1024x1024 : Shape := ⟨2, ![1024, 1024]⟩
abbrev S1x8x1024 : Shape := ⟨3, ![1, 8, 1024]⟩
abbrev S10x8x1024 : Shape := ⟨3, ![10, 8, 1024]⟩
abbrev S4096x1024 : Shape := ⟨2, ![4096, 1024]⟩
abbrev S8x1024 : Shape := ⟨2, ![8, 1024]⟩
abbrev S1016x1024 : Shape := ⟨2, ![1016, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x4096x18560, .f32⟩
  | .hbm, ⟨2, _⟩ => ⟨S2x4x10240, .f32⟩
  | .hbm, ⟨3, _⟩ => ⟨S2x10240, .f32⟩
  | .hbm, ⟨4, _⟩ => ⟨S2x4096x18560, .bf16⟩
  | .hbm, ⟨5, _⟩ => ⟨S1x4x10240, .f32⟩
  | .hbm, ⟨6, _⟩ => ⟨S4x10240, .f32⟩
  | .hbm, ⟨7, _⟩ => ⟨S1x10240, .f32⟩
  | .hbm, ⟨8, _⟩ => ⟨S10240, .f32⟩
  | .hbm, ⟨9, _⟩ => ⟨S1x10240, .f32⟩
  | .hbm, ⟨10, _⟩ => ⟨S8192x10240, .bf16⟩
  | .hbm, ⟨11, _⟩ => ⟨S8x8x10240, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x8x1024, .f32⟩
  | .local _ .vmem, ⟨11, _⟩ => ⟨S1x8x1024, .f32⟩
  | .local _ .vmem, ⟨12, _⟩ => ⟨S10x8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 10], ![false, false]⟩

def k0_cond1 (i : grid0.Coords) : BitVec 1 :=
  let arg0 : BitVec 32 := BitVec.ofNat 32 (i 0).val
  let c2_i32 : BitVec 32 := 2#32
  let c0_i32 : BitVec 32 := 0#32
  let v8 : BitVec 1 := Scalar.cmpi .eq c2_i32 c0_i32
  let c1_i32 : BitVec 32 := 1#32
  let v9 : BitVec 32 := Scalar.select v8 c1_i32 c2_i32
  let v10 : BitVec 32 := Scalar.remsi arg0 v9
  let c0_i32_8 : BitVec 32 := 0#32
  let v12 : BitVec 1 := Scalar.cmpi .slt v10 c0_i32_8
  let c0_i32_9 : BitVec 32 := 0#32
  let v13 : BitVec 1 := Scalar.cmpi .slt v9 c0_i32_9
  let v14 : BitVec 1 := Scalar.xori v12 v13
  let c0_i32_7 : BitVec 32 := 0#32
  let v11 : BitVec 1 := Scalar.cmpi .ne v10 c0_i32_7
  let v15 : BitVec 1 := Scalar.andi v14 v11
  let v16 : BitVec 32 := Scalar.addi v10 v9
  let v17 : BitVec 32 := Scalar.select v15 v16 v10
  let c0_i32_10 : BitVec 32 := 0#32
  let v18 : BitVec 1 := Scalar.cmpi .eq v17 c0_i32_10
  let v19 : BitVec 32 := Scalar.extui v18
  let c0_i32_11 : BitVec 32 := 0#32
  let v20 : BitVec 1 := Scalar.cmpi .ne v19 c0_i32_11
  v20

def k0_off1 (i : grid0.Coords) : Fin 3 → Nat :=
  let arg1 : BitVec 32 := BitVec.ofNat 32 (i 1).val
  let v87 : Index := Scalar.indexCast arg1
  let c0_37 : Index := 0#32
  let c0_38 : Index := 0#32
  ![v87.toNat, 0, 0]
def k0_off2 (i : grid0.Coords) : Fin 3 → Nat :=
  let arg1 : BitVec 32 := BitVec.ofNat 32 (i 1).val
  let v21 : Index := Scalar.indexCast arg1
  let c0_12 : Index := 0#32
  let c0_13 : Index := 0#32
  ![v21.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel9Ideal.lean ====
variable {F : FTy → Type} [FloatOps F] [Named F]
def κ : String → Option EReal := fun
  | "neg_log2e" => some ((-((Real.log 2)⁻¹) : ℝ) : EReal)
  | _ => none
-- ==== Reference9Ideal.lean ====
abbrev S8192x4096 : Shape := ⟨2, ![8192, 4096]⟩
abbrev S2x4096x18560 : Shape := ⟨3, ![2, 4096, 18560]⟩
abbrev S2x4x10240 : Shape := ⟨3, ![2, 4, 10240]⟩
abbrev S2x10240 : Shape := ⟨2, ![2, 10240]⟩
abbrev S1x4096x18560 : Shape := ⟨3, ![1, 4096, 18560]⟩
abbrev S4096x18560 : Shape := ⟨2, ![4096, 18560]⟩
abbrev S8192x18560 : Shape := ⟨2, ![8192, 18560]⟩
abbrev S8192x8192 : Shape := ⟨2, ![8192, 8192]⟩
abbrev S8192x10240 : Shape := ⟨2, ![8192, 10240]⟩
abbrev S8192x128 : Shape := ⟨2, ![8192, 128]⟩
abbrev S4x2048x10240 : Shape := ⟨3, ![4, 2048, 10240]⟩
abbrev S_ : Shape := ⟨0, ![]⟩
abbrev S4x3x10240 : Shape := ⟨3, ![4, 3, 10240]⟩
abbrev S4x2051x10240 : Shape := ⟨3, ![4, 2051, 10240]⟩
abbrev S1x10240 : Shape := ⟨2, ![1, 10240]⟩
abbrev S10240 : Shape := ⟨1, ![10240]⟩
abbrev S1x1x10240 : Shape := ⟨3, ![1, 1, 10240]⟩
abbrev S8x1024x10240 : Shape := ⟨3, ![8, 1024, 10240]⟩
abbrev S8x8x10240 : Shape := ⟨3, ![8, 8, 10240]⟩

abbrev nBuf : Space → Nat
  | .hbm => 63
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x18560, .f32⟩
  | .hbm, ⟨2, _⟩ => ⟨S2x4x10240, .f32⟩
  | .hbm, ⟨3, _⟩ => ⟨S2x10240, .f32⟩
  | .hbm, ⟨4, _⟩ => ⟨S8192x4096, .f32⟩
  | .hbm, ⟨5, _⟩ => ⟨S1x4096x18560, .f32⟩
  | .hbm, ⟨6, _⟩ => ⟨S4096x18560, .f32⟩
  | .hbm, ⟨7, _⟩ => ⟨S8192x18560, .f32⟩
  | .hbm, ⟨8, _⟩ => ⟨S8192x8192, .f32⟩
  | .hbm, ⟨9, _⟩ => ⟨S8192x10240, .f32⟩
  | .hbm, ⟨10, _⟩ => ⟨S8192x128, .f32⟩
  | .hbm, ⟨11, _⟩ => ⟨S4x2048x10240, .f32⟩
  | .hbm, ⟨12, _⟩ => ⟨S_, .f32⟩
  | .hbm, ⟨13, _⟩ => ⟨S4x3x10240, .f32⟩
  | .hbm, ⟨14, _⟩ => ⟨S4x2051x10240, .f32⟩
  | .hbm, ⟨15, _⟩ => ⟨S1x10240, .f32⟩
  | .hbm, ⟨16, _⟩ => ⟨S10240, .f32⟩
  | .hbm, ⟨17, _⟩ => ⟨S4x2048x10240, .f32⟩
  | .hbm, ⟨18, _⟩ => ⟨S1x1x10240, .f32⟩
  | .hbm, ⟨19, _⟩ => ⟨S10240, .f32⟩
  | .hbm, ⟨20, _⟩ => ⟨S1x1x10240, .f32⟩
  | .hbm, ⟨21, _⟩ => ⟨S4x2048x10240, .f32⟩
  | .hbm, ⟨22, _⟩ => ⟨S4x2048x10240, .f32⟩
  | .hbm, ⟨23, _⟩ => ⟨S_, .f32⟩
  | .hbm, ⟨24, _⟩ => ⟨S4x2048x10240, .f32⟩
  | .hbm, ⟨25, _⟩ => ⟨S4x2048x10240, .f32⟩
  | .hbm, ⟨26, _⟩ => ⟨S4x2048x10240, .f32⟩
  | .hbm, ⟨27, _⟩ => ⟨S1x1x10240, .f32⟩
  | .hbm, ⟨28, _⟩ => ⟨S10240, .f32⟩
  | .hbm, ⟨29, _⟩ => ⟨S1x1x10240, .f32⟩
  | .hbm, ⟨30, _⟩ => ⟨S4x2048x10240, .f32⟩
  | .hbm, ⟨31, _⟩ => ⟨S4x2048x10240, .f32⟩
  | .hbm, ⟨32, _⟩ => ⟨S4x2048x10240, .f32⟩
  | .hbm, ⟨33, _⟩ => ⟨S4x2048x10240, .f32⟩
  | .hbm, ⟨34, _⟩ => ⟨S1x1x10240, .f32⟩
  | .hbm, ⟨35, _⟩ => ⟨S10240, .f32⟩
  | .hbm, ⟨36, _⟩ => ⟨S1x1x10240, .f32⟩
  | .hbm, ⟨37, _⟩ => ⟨S4x2048x10240, .f32⟩
  | .hbm, ⟨38, _⟩ => ⟨S4x2048x10240, .f32⟩
  | .hbm, ⟨39, _⟩ => ⟨S4x2048x10240, .f32⟩
  | .hbm, ⟨40, _⟩ => ⟨S4x2048x10240, .f32⟩
  | .hbm, ⟨41, _⟩ => ⟨S1x1x10240, .f32⟩
  | .hbm, ⟨42, _⟩ => ⟨S10240, .f32⟩
  | .hbm, ⟨43, _⟩ => ⟨S1x1x10240, .f32⟩
  | .hbm, ⟨44, _⟩ => ⟨S4x2048x10240, .f32⟩
  | .hbm, ⟨45, _⟩ => ⟨S4x2048x10240, .f32⟩
  | .hbm, ⟨46, _⟩ => ⟨S4x2048x10240, .f32⟩
  | .hbm, ⟨47, _⟩ => ⟨S1x1x10240, .f32⟩
  | .hbm, ⟨48, _⟩ => ⟨S4x2048x10240, .f32⟩
  | .hbm, ⟨49, _⟩ => ⟨S4x2048x10240, .f32⟩
  | .hbm, ⟨50, _⟩ => ⟨S4x2048x10240, .f32⟩
  | .hbm, ⟨51, _⟩ => ⟨S4x2048x10240, .f32⟩
  | .hbm, ⟨52, _⟩ => ⟨S_, .f32⟩
  | .hbm, ⟨53, _⟩ => ⟨S4x2048x10240, .f32⟩
  | .hbm, ⟨54, _⟩ => ⟨S4x2048x10240, .f32⟩
  | .hbm, ⟨55, _⟩ => ⟨S_, .f32⟩
  | .hbm, ⟨56, _⟩ => ⟨S4x2048x10240, .f32⟩
  | .hbm, ⟨57, _⟩ => ⟨S4x2048x10240, .f32⟩
  | .hbm, ⟨58, _⟩ => ⟨S4x2048x10240, .f32⟩
  | .hbm, ⟨59, _⟩ => ⟨S8192x10240, .f32⟩
  | .hbm, ⟨60, _⟩ => ⟨S8192x10240, .bf16⟩
  | .hbm, ⟨61, _⟩ => ⟨S8x1024x10240, .f32⟩
  | .hbm, ⟨62, _⟩ => ⟨S8x8x10240, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel10.lean ====
abbrev S8192x4096 : Shape := ⟨2, ![8192, 4096]⟩
abbrev S2x4096x16416 : Shape := ⟨3, ![2, 4096, 16416]⟩
abbrev S2x32 : Shape := ⟨2, ![2, 32]⟩
abbrev S2x4096x32 : Shape := ⟨3, ![2, 4096, 32]⟩
abbrev S_ : Shape := ⟨0, ![]⟩
abbrev S2x4096x128 : Shape := ⟨3, ![2, 4096, 128]⟩
abbrev S1x32 : Shape := ⟨2, ![1, 32]⟩
abbrev S32 : Shape := ⟨1, ![32]⟩
abbrev S128 : Shape := ⟨1, ![128]⟩
abbrev S1x128 : Shape := ⟨2, ![1, 128]⟩
abbrev S1x4096x128 : Shape := ⟨3, ![1, 4096, 128]⟩
abbrev S8192x128 : Shape := ⟨2, ![8192, 128]⟩
abbrev S1024x4096 : Shape := ⟨2, ![1024, 4096]⟩
abbrev S1024x128 : Shape := ⟨2, ![1024, 128]⟩
abbrev S4096x128 : Shape := ⟨2, ![4096, 128]⟩

abbrev nBuf : Space → Nat
  | .hbm => 16
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x32, .f32⟩
  | .hbm, ⟨3, _⟩ => ⟨S2x4096x32, .f32⟩
  | .hbm, ⟨4, _⟩ => ⟨S_, .i32⟩
  | .hbm, ⟨5, _⟩ => ⟨S_, .f32⟩
  | .hbm, ⟨6, _⟩ => ⟨S2x4096x128, .f32⟩
  | .hbm, ⟨7, _⟩ => ⟨S2x4096x128, .bf16⟩
  | .hbm, ⟨8, _⟩ => ⟨S1x32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x4096x128, .bf16⟩
  | .hbm, ⟨15, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Kernel10Ideal.lean ====
abbrev S8192x4096 : Shape := ⟨2, ![8192, 4096]⟩
abbrev S2x4096x16416 : Shape := ⟨3, ![2, 4096, 16416]⟩
abbrev S2x32 : Shape := ⟨2, ![2, 32]⟩
abbrev S2x4096x32 : Shape := ⟨3, ![2, 4096, 32]⟩
abbrev S_ : Shape := ⟨0, ![]⟩
abbrev S2x4096x128 : Shape := ⟨3, ![2, 4096, 128]⟩
abbrev S1x32 : Shape := ⟨2, ![1, 32]⟩
abbrev S32 : Shape := ⟨1, ![32]⟩
abbrev S128 : Shape := ⟨1, ![128]⟩
abbrev S1x128 : Shape := ⟨2, ![1, 128]⟩
abbrev S1x4096x128 : Shape := ⟨3, ![1, 4096, 128]⟩
abbrev S8192x128 : Shape := ⟨2, ![8192, 128]⟩
abbrev S1024x4096 : Shape := ⟨2, ![1024, 4096]⟩
abbrev S1024x128 : Shape := ⟨2, ![1024, 128]⟩
abbrev S4096x128 : Shape := ⟨2, ![4096, 128]⟩

abbrev nBuf : Space → Nat
  | .hbm => 16
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x32, .f32⟩
  | .hbm, ⟨3, _⟩ => ⟨S2x4096x32, .f32⟩
  | .hbm, ⟨4, _⟩ => ⟨S_, .i32⟩
  | .hbm, ⟨5, _⟩ => ⟨S_, .f32⟩
  | .hbm, ⟨6, _⟩ => ⟨S2x4096x128, .f32⟩
  | .hbm, ⟨7, _⟩ => ⟨S2x4096x128, .bf16⟩
  | .hbm, ⟨8, _⟩ => ⟨S1x32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x4096x128, .bf16⟩
  | .hbm, ⟨15, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference10Ideal.lean ====
abbrev S8192x4096 : Shape := ⟨2, ![8192, 4096]⟩
abbrev S2x4096x16416 : Shape := ⟨3, ![2, 4096, 16416]⟩
abbrev S2x32 : Shape := ⟨2, ![2, 32]⟩
abbrev S1x4096x16416 : Shape := ⟨3, ![1, 4096, 16416]⟩
abbrev S4096x16416 : Shape := ⟨2, ![4096, 16416]⟩
abbrev S8192x16416 : Shape := ⟨2, ![8192, 16416]⟩
abbrev S8192x32 : Shape := ⟨2, ![8192, 32]⟩
abbrev S1x32 : Shape := ⟨2, ![1, 32]⟩
abbrev S32 : Shape := ⟨1, ![32]⟩
abbrev S_ : Shape := ⟨0, ![]⟩
abbrev S8192x128 : Shape := ⟨2, ![8192, 128]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x16416, .f32⟩
  | .hbm, ⟨2, _⟩ => ⟨S2x32, .f32⟩
  | .hbm, ⟨3, _⟩ => ⟨S8192x4096, .f32⟩
  | .hbm, ⟨4, _⟩ => ⟨S1x4096x16416, .f32⟩
  | .hbm, ⟨5, _⟩ => ⟨S4096x16416, .f32⟩
  | .hbm, ⟨6, _⟩ => ⟨S8192x16416, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x32, .f32⟩
  | .hbm, ⟨12, _⟩ => ⟨S1x32, .f32⟩
  | .hbm, ⟨13, _⟩ => ⟨S32, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S_, .i32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .i1⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_call1_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_v8 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_v1 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel11.lean ====
abbrev S32x4096 : Shape := ⟨2, ![32, 4096]⟩
abbrev S2x4096x16416 : Shape := ⟨3, ![2, 4096, 16416]⟩
abbrev S1x4096x1024 : Shape := ⟨3, ![1, 4096, 1024]⟩
abbrev S32x1024 : Shape := ⟨2, ![32, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x4096, .bf16⟩
  | .hbm, ⟨1, _⟩ => ⟨S2x4096x16416, .f32⟩
  | .hbm, ⟨2, _⟩ => ⟨S2x4096x16416, .bf16⟩
  | .hbm, ⟨3, _⟩ => ⟨S32x4096, .f32⟩
  | .hbm, ⟨4, _⟩ => ⟨S32x4096, .bf16⟩
  | .local _ .vmem, ⟨0, _⟩ => ⟨S32x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S32x1024, .f32⟩
  | .local _ .vmem, ⟨4, _⟩ => ⟨S32x1024, .f32⟩
  | .local _ .vmem, ⟨5, _⟩ => ⟨S32x1024, .bf16⟩
  | .local _ .vmem, ⟨6, _⟩ => ⟨S32x1024, .bf16⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S32x4096 : Shape := ⟨2, ![32, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S32x16416 : Shape := ⟨2, ![32, 16416]⟩
abbrev S32x32 : Shape := ⟨2, ![32, 32]⟩

abbrev nBuf : Space → Nat
  | .hbm => 12
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S2x4096x16416, .f32⟩
  | .hbm, ⟨2, _⟩ => ⟨S32x4096, .f32⟩
  | .hbm, ⟨3, _⟩ => ⟨S1x4096x16416, .f32⟩
  | .hbm, ⟨4, _⟩ => ⟨S4096x16416, .f32⟩
  | .hbm, ⟨5, _⟩ => ⟨S32x16416, .f32⟩
  | .hbm, ⟨6, _⟩ => ⟨S32x4096, .f32⟩
  | .hbm, ⟨7, _⟩ => ⟨S32x4096, .f32⟩
  | .hbm, ⟨8, _⟩ => ⟨S32x4096, .f32⟩
  | .hbm, ⟨9, _⟩ => ⟨S32x4096, .f32⟩
  | .hbm, ⟨10, _⟩ => ⟨S32x32, .f32⟩
  | .hbm, ⟨11, _⟩ => ⟨S32x4096, .bf16⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel12.lean ====
abbrev S32x4096 : Shape := ⟨2, ![32, 4096]⟩
abbrev S2x4096x16416 : Shape := ⟨3, ![2, 4096, 16416]⟩
abbrev S1x4096x1024 : Shape := ⟨3, ![1, 4096, 1024]⟩
abbrev S32x1024 : Shape := ⟨2, ![32, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x4096, .bf16⟩
  | .hbm, ⟨1, _⟩ => ⟨S2x4096x16416, .f32⟩
  | .hbm, ⟨2, _⟩ => ⟨S2x4096x16416, .bf16⟩
  | .hbm, ⟨3, _⟩ => ⟨S32x4096, .f32⟩
  | .hbm, ⟨4, _⟩ => ⟨S32x4096, .bf16⟩
  | .local _ .vmem, ⟨0, _⟩ => ⟨S32x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S32x1024, .f32⟩
  | .local _ .vmem, ⟨4, _⟩ => ⟨S32x1024, .f32⟩
  | .local _ .vmem, ⟨5, _⟩ => ⟨S32x1024, .bf16⟩
  | .local _ .vmem, ⟨6, _⟩ => ⟨S32x1024, .bf16⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S32x4096 : Shape := ⟨2, ![32, 4096]⟩
abbrev S2x4096x16416 : Shape := ⟨3, ![2, 4096, 16416]⟩
abbrev S1x4096x16416 : Shape := ⟨3, ![1, 4096, 16416]⟩
abbrev S4096x16416 : Shape := ⟨2, ![4096, 16416]⟩
abbrev S32x16416 : Shape := ⟨2, ![32, 16416]⟩
abbrev S32x32 : Shape := ⟨2, ![32, 32]⟩

abbrev nBuf : Space → Nat
  | .hbm => 12
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S2x4096x16416, .f32⟩
  | .hbm, ⟨2, _⟩ => ⟨S32x4096, .f32⟩
  | .hbm, ⟨3, _⟩ => ⟨S1x4096x16416, .f32⟩
  | .hbm, ⟨4, _⟩ => ⟨S4096x16416, .f32⟩
  | .hbm, ⟨5, _⟩ => ⟨S32x16416, .f32⟩
  | .hbm, ⟨6, _⟩ => ⟨S32x4096, .f32⟩
  | .hbm, ⟨7, _⟩ => ⟨S32x4096, .f32⟩
  | .hbm, ⟨8, _⟩ => ⟨S32x4096, .f32⟩
  | .hbm, ⟨9, _⟩ => ⟨S32x4096, .f32⟩
  | .hbm, ⟨10, _⟩ => ⟨S32x32, .f32⟩
  | .hbm, ⟨11, _⟩ => ⟨S32x4096, .bf16⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel13.lean ====
abbrev S32x4096 : Shape := ⟨2, ![32, 4096]⟩
abbrev S2x4096x16416 : Shape := ⟨3, ![2, 4096, 16416]⟩
abbrev S2x32 : Shape := ⟨2, ![2, 32]⟩
abbrev S2x4096x32 : Shape := ⟨3, ![2, 4096, 32]⟩
abbrev S_ : Shape := ⟨0, ![]⟩
abbrev S2x4096x128 : Shape := ⟨3, ![2, 4096, 128]⟩
abbrev S1x32 : Shape := ⟨2, ![1, 32]⟩
abbrev S32 : Shape := ⟨1, ![32]⟩
abbrev S128 : Shape := ⟨1, ![128]⟩
abbrev S1x128 : Shape := ⟨2, ![1, 128]⟩
abbrev S1x4096x128 : Shape := ⟨3, ![1, 4096, 128]⟩
abbrev S32x128 : Shape := ⟨2, ![32, 128]⟩
abbrev S4096x128 : Shape := ⟨2, ![4096, 128]⟩

abbrev nBuf : Space → Nat
  | .hbm => 16
  | .vmem => 4
  | .smem => 0
  | _ => 0

abbrev bufTy : (tb : Table) → Fin (tcTables nBuf tb) → BufTy
  | .hbm, ⟨0, _⟩ => ⟨S32x4096, .bf16⟩
  | .hbm, ⟨1, _⟩ => ⟨S2x4096x16416, .f32⟩
  | .hbm, ⟨2, _⟩ => ⟨S2x32, .f32⟩
  | .hbm, ⟨3, _⟩ => ⟨S2x4096x32, .f32⟩
  | .hbm, ⟨4, _⟩ => ⟨S_, .i32⟩
  | .hbm, ⟨5, _⟩ => ⟨S_, .f32⟩
  | .hbm, ⟨6, _⟩ => ⟨S2x4096x128, .f32⟩
  | .hbm, ⟨7, _⟩ => ⟨S2x4096x128, .bf16⟩
  | .hbm, ⟨8, _⟩ => ⟨S1x32, .f32⟩
  | .hbm, ⟨9, _⟩ => ⟨S32, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x4096x128, .bf16⟩
  | .hbm, ⟨15, _⟩ => ⟨S32x128, .f32⟩
  | .local _ .vmem, ⟨0, _⟩ => ⟨S32x4096, .bf16⟩
  | .local _ .vmem, ⟨1, _⟩ => ⟨S1x4096x128, .bf16⟩
  | .local _ .vmem, ⟨2, _⟩ => ⟨S1x128, .f32⟩
  | .local _ .vmem, ⟨3, _⟩ => ⟨S32x128, .f32⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference13Ideal.lean ====
abbrev S32x4096 : Shape := ⟨2, ![32, 4096]⟩
abbrev S2x4096x16416 : Shape := ⟨3, ![2, 4096, 16416]⟩
abbrev S2x32 : Shape := ⟨2, ![2, 32]⟩
abbrev S1x4096x16416 : Shape := ⟨3, ![1, 4096, 16416]⟩
abbrev S4096x16416 : Shape := ⟨2, ![4096, 16416]⟩
abbrev S32x16416 : Shape := ⟨2, ![32, 16416]⟩
abbrev S32x32 : Shape := ⟨2, ![32, 32]⟩
abbrev S1x32 : Shape := ⟨2, ![1, 32]⟩
abbrev S32 : Shape := ⟨1, ![32]⟩
abbrev S_ : Shape := ⟨0, ![]⟩
abbrev S32x128 : Shape := ⟨2, ![32, 128]⟩

abbrev nBuf : Space → Nat
  | .hbm => 36
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S2x4096x16416, .f32⟩
  | .hbm, ⟨2, _⟩ => ⟨S2x32, .f32⟩
  | .hbm, ⟨3, _⟩ => ⟨S32x4096, .f32⟩
  | .hbm, ⟨4, _⟩ => ⟨S1x4096x16416, .f32⟩
  | .hbm, ⟨5, _⟩ => ⟨S4096x16416, .f32⟩
  | .hbm, ⟨6, _⟩ => ⟨S32x16416, .f32⟩
  | .hbm, ⟨7, _⟩ => ⟨S32x4096, .f32⟩
  | .hbm, ⟨8, _⟩ => ⟨S32x4096, .f32⟩
  | .hbm, ⟨9, _⟩ => ⟨S32x4096, .f32⟩
  | .hbm, ⟨10, _⟩ => ⟨S32x4096, .f32⟩
  | .hbm, ⟨11, _⟩ => ⟨S32x32, .f32⟩
  | .hbm, ⟨12, _⟩ => ⟨S1x32, .f32⟩
  | .hbm, ⟨13, _⟩ => ⟨S32, .f32⟩
  | .hbm, ⟨14, _⟩ => ⟨S1x32, .f32⟩
  | .hbm, ⟨15, _⟩ => ⟨S32x32, .f32⟩
  | .hbm, ⟨16, _⟩ => ⟨S32x32, .f32⟩
  | .hbm, ⟨17, _⟩ => ⟨S_, .i32⟩
  | .hbm, ⟨18, _⟩ => ⟨S_, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S32x128, .i1⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S32x128, .f32⟩
  | .hbm, ⟨35, _⟩ => ⟨S32x128, .f32⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_call1_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_v8 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_v1 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel14.lean ====
abbrev S32x4096 : Shape := ⟨2, ![32, 4096]⟩
abbrev S2x4096x18560 : Shape := ⟨3, ![2, 4096, 18560]⟩
abbrev S32x10240 : Shape := ⟨2, ![32, 10240]⟩
abbrev S1x4096x1024 : Shape := ⟨3, ![1, 4096, 1024]⟩
abbrev S32x1024 : Shape := ⟨2, ![32, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32x4096, .bf16⟩
  | .hbm, ⟨1, _⟩ => ⟨S2x4096x18560, .f32⟩
  | .hbm, ⟨2, _⟩ => ⟨S2x4096x18560, .bf16⟩
  | .hbm, ⟨3, _⟩ => ⟨S32x10240, .f32⟩
  | .local _ .vmem, ⟨0, _⟩ => ⟨S32x4096, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S32x1024, .f32⟩
  | .local _ .vmem, ⟨4, _⟩ => ⟨S32x1024, .f32⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S32x4096 : Shape := ⟨2, ![32, 4096]⟩
abbrev S2x4096x18560 : Shape := ⟨3, ![2, 4096, 18560]⟩
abbrev S1x4096x18560 : Shape := ⟨3, ![1, 4096, 18560]⟩
abbrev S4096x18560 : Shape := ⟨2, ![4096, 18560]⟩
abbrev S32x18560 : Shape := ⟨2, ![32, 18560]⟩
abbrev S32x8192 : Shape := ⟨2, ![32, 8192]⟩
abbrev S32x10240 : Shape := ⟨2, ![32, 10240]⟩
abbrev S32x128 : Shape := ⟨2, ![32, 128]⟩

abbrev nBuf : Space → Nat
  | .hbm => 9
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S2x4096x18560, .f32⟩
  | .hbm, ⟨2, _⟩ => ⟨S32x4096, .f32⟩
  | .hbm, ⟨3, _⟩ => ⟨S1x4096x18560, .f32⟩
  | .hbm, ⟨4, _⟩ => ⟨S4096x18560, .f32⟩
  | .hbm, ⟨5, _⟩ => ⟨S32x18560, .f32⟩
  | .hbm, ⟨6, _⟩ => ⟨S32x8192, .f32⟩
  | .hbm, ⟨7, _⟩ => ⟨S32x10240, .f32⟩
  | .hbm, ⟨8, _⟩ => ⟨S32x128, .f32⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel15.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x4096, .f32⟩
  | .hbm, ⟨3, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference16Ideal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S32x4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S8192x4096 : Shape := ⟨2, ![8192, 4096]⟩
abbrev S2x4096x18560 : Shape := ⟨3, ![2, 4096, 18560]⟩
abbrev S8192x128 : Shape := ⟨2, ![8192, 128]⟩
abbrev S1024x4096 : Shape := ⟨2, ![1024, 4096]⟩
abbrev S1x4096x128 : Shape := ⟨3, ![1, 4096, 128]⟩
abbrev S1024x128 : Shape := ⟨2, ![1024, 128]⟩
abbrev S4096x128 : Shape := ⟨2, ![4096, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S2x4096x18560, .f32⟩
  | .hbm, ⟨2, _⟩ => ⟨S2x4096x18560, .bf16⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x128, .bf16⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c144_i32 : BitVec 32 := 144#32
  let v0 : BitVec 32 := Scalar.addi arg1 c144_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8192x4096 : Shape := ⟨2, ![8192, 4096]⟩
abbrev S2x4096x18560 : Shape := ⟨3, ![2, 4096, 18560]⟩
abbrev S1x4096x18560 : Shape := ⟨3, ![1, 4096, 18560]⟩
abbrev S4096x18560 : Shape := ⟨2, ![4096, 18560]⟩
abbrev S8192x18560 : Shape := ⟨2, ![8192, 18560]⟩
abbrev S8192x8192 : Shape := ⟨2, ![8192, 8192]⟩
abbrev S8192x10240 : Shape := ⟨2, ![8192, 10240]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x18560, .f32⟩
  | .hbm, ⟨2, _⟩ => ⟨S8192x4096, .f32⟩
  | .hbm, ⟨3, _⟩ => ⟨S1x4096x18560, .f32⟩
  | .hbm, ⟨4, _⟩ => ⟨S4096x18560, .f32⟩
  | .hbm, ⟨5, _⟩ => ⟨S8192x18560, .f32⟩
  | .hbm, ⟨6, _⟩ => ⟨S8192x8192, .f32⟩
  | .hbm, ⟨7, _⟩ => ⟨S8192x10240, .f32⟩
  | .hbm, ⟨8, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel18.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S4x1x4096 : Shape := ⟨3, ![4, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S4x1x4096, .f32⟩
  | .hbm, ⟨7, _⟩ => ⟨S4x1x4096, .f32⟩
  | .hbm, ⟨8, _⟩ => ⟨S1x4096, .f32⟩
  | .hbm, ⟨9, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference18Ideal.lean ====
abbrev S8192x4096 : Shape := ⟨2, ![8192, 4096]⟩
abbrev S4x4096 : Shape := ⟨2, ![4, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x4096 : Shape := ⟨2, ![1, 4096]⟩
abbrev S4096 : Shape := ⟨1, ![4096]⟩
abbrev S1x1x4096 : Shape := ⟨3, ![1, 1, 4096]⟩
abbrev S4x1x4096 : Shape := ⟨3, ![4, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S4x4096, .f32⟩
  | .hbm, ⟨3, _⟩ => ⟨S4x4096, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S4x2048x4096, .f32⟩
  | .hbm, ⟨22, _⟩ => ⟨S4x2048x4096, .f32⟩
  | .hbm, ⟨23, _⟩ => ⟨S4x1x4096, .f32⟩
  | .hbm, ⟨24, _⟩ => ⟨S_, .f32⟩
  | .hbm, ⟨25, _⟩ => ⟨S4x1x4096, .f32⟩
  | .hbm, ⟨26, _⟩ => ⟨S4x1x4096, .f32⟩
  | .hbm, ⟨27, _⟩ => ⟨S4x2048x4096, .f32⟩
  | .hbm, ⟨28, _⟩ => ⟨S4x2048x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S8192x4096, .f32⟩
  | .hbm, ⟨33, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel19.lean ====
abbrev S32x4096 : Shape := ⟨2, ![32, 4096]⟩
abbrev S4x4096 : Shape := ⟨2, ![4, 4096]⟩
abbrev S8x4096 : Shape := ⟨2, ![8, 4096]⟩
abbrev S1x4096 : Shape := ⟨2, ![1, 4096]⟩
abbrev S4096 : Shape := ⟨1, ![4096]⟩
abbrev S8x4x4096 : Shape := ⟨3, ![8, 4, 4096]⟩
abbrev S32 : Shape := ⟨1, ![32]⟩
abbrev S32x1 : Shape := ⟨2, ![32, 1]⟩

abbrev nBuf : Space → Nat
  | .hbm => 12
  | .vmem => 5
  | .smem => 0
  | _ => 0

abbrev bufTy : (tb : Table) → Fin (tcTables nBuf tb) → BufTy
  | .hbm, ⟨0, _⟩ => ⟨S32x4096, .f32⟩
  | .hbm, ⟨1, _⟩ => ⟨S4x4096, .f32⟩
  | .hbm, ⟨2, _⟩ => ⟨S8x4096, .f32⟩
  | .hbm, ⟨3, _⟩ => ⟨S8x4096, .f32⟩
  | .hbm, ⟨4, _⟩ => ⟨S1x4096, .f32⟩
  | .hbm, ⟨5, _⟩ => ⟨S4096, .f32⟩
  | .hbm, ⟨6, _⟩ => ⟨S8x4x4096, .f32⟩
  | .hbm, ⟨7, _⟩ => ⟨S32x4096, .f32⟩
  | .hbm, ⟨8, _⟩ => ⟨S8x4x4096, .f32⟩
  | .hbm, ⟨9, _⟩ => ⟨S32x4096, .f32⟩
  | .hbm, ⟨10, _⟩ => ⟨S1x4096, .f32⟩
  | .hbm, ⟨11, _⟩ => ⟨S32x4096, .bf16⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | .local _ .vmem, ⟨3, _⟩ => ⟨S32x4096, .f32⟩
  | .local _ .vmem, ⟨4, _⟩ => ⟨S32x4096, .bf16⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S32x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference19Ideal.lean ====
abbrev S32x4096 : Shape := ⟨2, ![32, 4096]⟩
abbrev S4x4096 : Shape := ⟨2, ![4, 4096]⟩
abbrev S8x4096 : Shape := ⟨2, ![8, 4096]⟩
abbrev S8x4x4096 : Shape := ⟨3, ![8, 4, 4096]⟩
abbrev S_ : Shape := ⟨0, ![]⟩
abbrev S8x4 : Shape := ⟨2, ![8, 4]⟩
abbrev S8x4x1 : Shape := ⟨3, ![8, 4, 1]⟩
abbrev S1x4096 : Shape := ⟨2, ![1, 4096]⟩
abbrev S4096 : Shape := ⟨1, ![4096]⟩
abbrev S1x1x4096 : Shape := ⟨3, ![1, 1, 4096]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4x4096, .f32⟩
  | .hbm, ⟨2, _⟩ => ⟨S8x4096, .f32⟩
  | .hbm, ⟨3, _⟩ => ⟨S8x4096, .f32⟩
  | .hbm, ⟨4, _⟩ => ⟨S8x4x4096, .f32⟩
  | .hbm, ⟨5, _⟩ => ⟨S8x4x4096, .f32⟩
  | .hbm, ⟨6, _⟩ => ⟨S_, .f32⟩
  | .hbm, ⟨7, _⟩ => ⟨S8x4, .f32⟩
  | .hbm, ⟨8, _⟩ => ⟨S8x4x1, .f32⟩
  | .hbm, ⟨9, _⟩ => ⟨S_, .f32⟩
  | .hbm, ⟨10, _⟩ => ⟨S8x4x1, .f32⟩
  | .hbm, ⟨11, _⟩ => ⟨S8x4x1, .f32⟩
  | .hbm, ⟨12, _⟩ => ⟨S_, .f32⟩
  | .hbm, ⟨13, _⟩ => ⟨S8x4x1, .f32⟩
  | .hbm, ⟨14, _⟩ => ⟨S8x4x1, .f32⟩
  | .hbm, ⟨15, _⟩ => ⟨S8x4x1, .f32⟩
  | .hbm, ⟨16, _⟩ => ⟨S8x4x4096, .f32⟩
  | .hbm, ⟨17, _⟩ => ⟨S8x4x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S8x4x4096, .f32⟩
  | .hbm, ⟨22, _⟩ => ⟨S8x4x4096, .f32⟩
  | .hbm, ⟨23, _⟩ => ⟨S8x1x4096, .f32⟩
  | .hbm, ⟨24, _⟩ => ⟨S_, .f32⟩
  | .hbm, ⟨25, _⟩ => ⟨S8x1x4096, .f32⟩
  | .hbm, ⟨26, _⟩ => ⟨S8x1x4096, .f32⟩
  | .hbm, ⟨27, _⟩ => ⟨S8x4x4096, .f32⟩
  | .hbm, ⟨28, _⟩ => ⟨S8x4x4096, .f32⟩
  | .hbm, ⟨29, _⟩ => ⟨S8x1x4096, .f32⟩
  | .hbm, ⟨30, _⟩ => ⟨S8x4x4096, .f32⟩
  | .hbm, ⟨31, _⟩ => ⟨S8x4x4096, .f32⟩
  | .hbm, ⟨32, _⟩ => ⟨S32x4096, .f32⟩
  | .hbm, ⟨33, _⟩ => ⟨S32x4096, .bf16⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel20.lean ====
abbrev S16x4096 : Shape := ⟨2, ![16, 4096]⟩
abbrev S4x4096x12288 : Shape := ⟨3, ![4, 4096, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x4096x512 : Shape := ⟨3, ![1, 4096, 512]⟩
abbrev S1x1x512 : Shape := ⟨3, ![1, 1, 512]⟩
abbrev S1x16x512 : Shape := ⟨3, ![1, 16, 512]⟩
abbrev S4096x512 : Shape := ⟨2, ![4096, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S4x4096x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .local _ .vmem, ⟨0, _⟩ => ⟨S16x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel20Ideal.lean ====
variable {F : FTy → Type} [FloatOps F] [Named F]
def κ : String → Option EReal := fun
  | "neg_log2e" => some ((-((Real.log 2)⁻¹) : ℝ) : EReal)
  | _ => none
-- ==== Reference20Ideal.lean ====
abbrev S16x4096 : Shape := ⟨2, ![16, 4096]⟩
abbrev S4x4096x12288 : Shape := ⟨3, ![4, 4096, 12288]⟩
abbrev S4x12288 : Shape := ⟨2, ![4, 12288]⟩
abbrev S_ : Shape := ⟨0, ![]⟩
abbrev S4x12288x16 : Shape := ⟨3, ![4, 12288, 16]⟩
abbrev S4x16x12288 : Shape := ⟨3, ![4, 16, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4x4096x12288, .f32⟩
  | .hbm, ⟨2, _⟩ => ⟨S4x12288, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S4x12288x16, .f32⟩
  | .hbm, ⟨13, _⟩ => ⟨S4x16x12288, .f32⟩
  | .hbm, ⟨14, _⟩ => ⟨S4x1x12288, .f32⟩
  | .hbm, ⟨15, _⟩ => ⟨S4x16x12288, .f32⟩
  | .hbm, ⟨16, _⟩ => ⟨S4x16x12288, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel21.lean ====
abbrev S4x2048x32 : Shape := ⟨3, ![4, 2048, 32]⟩
abbrev S1x128x32 : Shape := ⟨3, ![1, 128, 32]⟩
abbrev S8x32 : Shape := ⟨2, ![8, 32]⟩
abbrev S128x128 : Shape := ⟨2, ![128, 128]⟩
abbrev S128x32 : Shape := ⟨2, ![128, 32]⟩
abbrev S1x32 : Shape := ⟨2, ![1, 32]⟩

abbrev nBuf : Space → Nat
  | .hbm => 2
  | .vmem => 5
  | .smem => 0
  | _ => 0

abbrev bufTy : (tb : Table) → Fin (tcTables nBuf tb) → BufTy
  | .hbm, ⟨0, _⟩ => ⟨S4x2048x32, .f32⟩
  | .hbm, ⟨1, _⟩ => ⟨S4x2048x32, .f32⟩
  | .local _ .vmem, ⟨0, _⟩ => ⟨S1x128x32, .f32⟩
  | .local _ .vmem, ⟨1, _⟩ => ⟨S1x128x32, .f32⟩
  | .local _ .vmem, ⟨2, _⟩ => ⟨S1x128x32, .f32⟩
  | .local _ .vmem, ⟨3, _⟩ => ⟨S1x128x32, .f32⟩
  | .local _ .vmem, ⟨4, _⟩ => ⟨S8x32, .f32⟩
  | _, _ => ⟨S4x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference21Ideal.lean ====
abbrev S4x2048x32 : Shape := ⟨3, ![4, 2048, 32]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x32, .f32⟩
  | .hbm, ⟨1, _⟩ => ⟨S_, .f32⟩
  | .hbm, ⟨2, _⟩ => ⟨S_, .f32⟩
  | .hbm, ⟨3, _⟩ => ⟨S4x2048x32, .f32⟩
  | _, _ => ⟨S4x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel22.lean ====
abbrev S1024x10240 : Shape := ⟨2, ![1024, 10240]⟩
abbrev S8x3x10240 : Shape := ⟨3, ![8, 3, 10240]⟩
abbrev S2x4x10240 : Shape := ⟨3, ![2, 4, 10240]⟩
abbrev S2x10240 : Shape := ⟨2, ![2, 10240]⟩
abbrev S_ : Shape := ⟨0, ![]⟩
abbrev S8x8x10240 : Shape := ⟨3, ![8, 8, 10240]⟩
abbrev S1x4x10240 : Shape := ⟨3, ![1, 4, 10240]⟩
abbrev S4x10240 : Shape := ⟨2, ![4, 10240]⟩
abbrev S1x10240 : Shape := ⟨2, ![1, 10240]⟩
abbrev S10240 : Shape := ⟨1, ![10240]⟩
abbrev S128x2048 : Shape := ⟨2, ![128, 2048]⟩
abbrev S1x8x2048 : Shape := ⟨3, ![1, 8, 2048]⟩
abbrev S4x2048 : Shape := ⟨2, ![4, 2048]⟩
abbrev S1x2048 : Shape := ⟨2, ![1, 2048]⟩
abbrev S8x2048 : Shape := ⟨2, ![8, 2048]⟩
abbrev S120x2048 : Shape := ⟨2, ![120, 2048]⟩

abbrev nBuf : Space → Nat
  | .hbm => 13
  | .vmem => 11
  | .smem => 0
  | _ => 0

abbrev bufTy : (tb : Table) → Fin (tcTables nBuf tb) → BufTy
  | .hbm, ⟨0, _⟩ => ⟨S1024x10240, .f32⟩
  | .hbm, ⟨1, _⟩ => ⟨S8x3x10240, .f32⟩
  | .hbm, ⟨2, _⟩ => ⟨S2x4x10240, .f32⟩
  | .hbm, ⟨3, _⟩ => ⟨S2x10240, .f32⟩
  | .hbm, ⟨4, _⟩ => ⟨S_, .i32⟩
  | .hbm, ⟨5, _⟩ => ⟨S_, .f32⟩
  | .hbm, ⟨6, _⟩ => ⟨S8x8x10240, .f32⟩
  | .hbm, ⟨7, _⟩ => ⟨S1x4x10240, .f32⟩
  | .hbm, ⟨8, _⟩ => ⟨S4x10240, .f32⟩
  | .hbm, ⟨9, _⟩ => ⟨S1x10240, .f32⟩
  | .hbm, ⟨10, _⟩ => ⟨S10240, .f32⟩
  | .hbm, ⟨11, _⟩ => ⟨S1x10240, .f32⟩
  | .hbm, ⟨12, _⟩ => ⟨S1024x10240, .bf16⟩
  | .local _ .vmem, ⟨0, _⟩ => ⟨S128x2048, .f32⟩
  | .local _ .vmem, ⟨1, _⟩ => ⟨S128x2048, .f32⟩
  | .local _ .vmem, ⟨2, _⟩ => ⟨S1x8x2048, .f32⟩
  | .local _ .vmem, ⟨3, _⟩ => ⟨S1x8x2048, .f32⟩
  | .local _ .vmem, ⟨4, _⟩ => ⟨S4x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .bf16⟩
  | .local _ .vmem, ⟨9, _⟩ => ⟨S128x2048, .bf16⟩
  | .local _ .vmem, ⟨10, _⟩ => ⟨S8x2048, .f32⟩
  | _, _ => ⟨S1024x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel22Ideal.lean ====
variable {F : FTy → Type} [FloatOps F] [Named F]
def κ : String → Option EReal := fun
  | "neg_log2e" => some ((-((Real.log 2)⁻¹) : ℝ) : EReal)
  | _ => none
-- ==== Reference22Ideal.lean ====
abbrev S1024x10240 : Shape := ⟨2, ![1024, 10240]⟩
abbrev S8x3x10240 : Shape := ⟨3, ![8, 3, 10240]⟩
abbrev S2x4x10240 : Shape := ⟨3, ![2, 4, 10240]⟩
abbrev S2x10240 : Shape := ⟨2, ![2, 10240]⟩
abbrev S8x128x10240 : Shape := ⟨3, ![8, 128, 10240]⟩
abbrev S8x131x10240 : Shape := ⟨3, ![8, 131, 10240]⟩
abbrev S1x10240 : Shape := ⟨2, ![1, 10240]⟩
abbrev S10240 : Shape := ⟨1, ![10240]⟩
abbrev S1x1x10240 : Shape := ⟨3, ![1, 1, 10240]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S1024x10240, .f32⟩
  | .hbm, ⟨1, _⟩ => ⟨S8x3x10240, .f32⟩
  | .hbm, ⟨2, _⟩ => ⟨S2x4x10240, .f32⟩
  | .hbm, ⟨3, _⟩ => ⟨S2x10240, .f32⟩
  | .hbm, ⟨4, _⟩ => ⟨S8x128x10240, .f32⟩
  | .hbm, ⟨5, _⟩ => ⟨S8x131x10240, .f32⟩
  | .hbm, ⟨6, _⟩ => ⟨S1x10240, .f32⟩
  | .hbm, ⟨7, _⟩ => ⟨S10240, .f32⟩
  | .hbm, ⟨8, _⟩ => ⟨S8x128x10240, .f32⟩
  | .hbm, ⟨9, _⟩ => ⟨S1x1x10240, .f32⟩
  | .hbm, ⟨10, _⟩ => ⟨S10240, .f32⟩
  | .hbm, ⟨11, _⟩ => ⟨S1x1x10240, .f32⟩
  | .hbm, ⟨12, _⟩ => ⟨S8x128x10240, .f32⟩
  | .hbm, ⟨13, _⟩ => ⟨S8x128x10240, .f32⟩
  | .hbm, ⟨14, _⟩ => ⟨S_, .f32⟩
  | .hbm, ⟨15, _⟩ => ⟨S8x128x10240, .f32⟩
  | .hbm, ⟨16, _⟩ => ⟨S8x128x10240, .f32⟩
  | .hbm, ⟨17, _⟩ => ⟨S8x128x10240, .f32⟩
  | .hbm, ⟨18, _⟩ => ⟨S1x1x10240, .f32⟩
  | .hbm, ⟨19, _⟩ => ⟨S10240, .f32⟩
  | .hbm, ⟨20, _⟩ => ⟨S1x1x10240, .f32⟩
  | .hbm, ⟨21, _⟩ => ⟨S8x128x10240, .f32⟩
  | .hbm, ⟨22, _⟩ => ⟨S8x128x10240, .f32⟩
  | .hbm, ⟨23, _⟩ => ⟨S8x128x10240, .f32⟩
  | .hbm, ⟨24, _⟩ => ⟨S8x128x10240, .f32⟩
  | .hbm, ⟨25, _⟩ => ⟨S1x1x10240, .f32⟩
  | .hbm, ⟨26, _⟩ => ⟨S10240, .f32⟩
  | .hbm, ⟨27, _⟩ => ⟨S1x1x10240, .f32⟩
  | .hbm, ⟨28, _⟩ => ⟨S8x128x10240, .f32⟩
  | .hbm, ⟨29, _⟩ => ⟨S8x128x10240, .f32⟩
  | .hbm, ⟨30, _⟩ => ⟨S8x128x10240, .f32⟩
  | .hbm, ⟨31, _⟩ => ⟨S8x128x10240, .f32⟩
  | .hbm, ⟨32, _⟩ => ⟨S1x1x10240, .f32⟩
  | .hbm, ⟨33, _⟩ => ⟨S10240, .f32⟩
  | .hbm, ⟨34, _⟩ => ⟨S1x1x10240, .f32⟩
  | .hbm, ⟨35, _⟩ => ⟨S8x128x10240, .f32⟩
  | .hbm, ⟨36, _⟩ => ⟨S8x128x10240, .f32⟩
  | .hbm, ⟨37, _⟩ => ⟨S8x128x10240, .f32⟩
  | .hbm, ⟨38, _⟩ => ⟨S1x1x10240, .f32⟩
  | .hbm, ⟨39, _⟩ => ⟨S8x128x10240, .f32⟩
  | .hbm, ⟨40, _⟩ => ⟨S8x128x10240, .f32⟩
  | .hbm, ⟨41, _⟩ => ⟨S8x128x10240, .f32⟩
  | .hbm, ⟨42, _⟩ => ⟨S8x128x10240, .f32⟩
  | .hbm, ⟨43, _⟩ => ⟨S_, .f32⟩
  | .hbm, ⟨44, _⟩ => ⟨S8x128x10240, .f32⟩
  | .hbm, ⟨45, _⟩ => ⟨S8x128x10240, .f32⟩
  | .hbm, ⟨46, _⟩ => ⟨S_, .f32⟩
  | .hbm, ⟨47, _⟩ => ⟨S8x128x10240, .f32⟩
  | .hbm, ⟨48, _⟩ => ⟨S8x128x10240, .f32⟩
  | .hbm, ⟨49, _⟩ => ⟨S8x128x10240, .f32⟩
  | .hbm, ⟨50, _⟩ => ⟨S1024x10240, .f32⟩
  | .hbm, ⟨51, _⟩ => ⟨S1024x10240, .bf16⟩
  | _, _ => ⟨S1024x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.ConvRun.lean ====
/- The convolution of the state-space mixer: one grid point of the kernel, run on any staging buffers. -/
module

public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel9Ideal.Conv

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- A point that starts a sequence: the rows carried for its columns are cleared first. The lists of stores into the two results and into the carried rows are found by the run. -/
noncomputable def runFirst (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : k0_cond1 i = 1#1)
    (x0 : Vec F S1024x4096 .bf16) (x1 : Vec F S1x4096x1024 .bf16) (x2 : Vec F S4x1024 .f32) (x3 : Vec F S1x1024 .f32) (d : Vec F S10x8x1024 .f32) :
    Σ' (L4 : List (View.Piece (Elt F) S1024x1024 .bf16)), Σ' (L5 : List (View.Piece (Elt F) S1x8x1024 .f32)), { LT : List (View.Piece (Elt F) S10x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ arg8.view.loc (c : Thread nD τ) ↦[arg8.view.set]{fullShare} arg8.view.writes (Elt F) (harg8.unread d) LT) -∗ K ⟨⟩))
          ⊢ wp frame (wpE (defs₀ (F := F)) Variants.none c none) E (cc0_ssd_xbc_conv i arg2 harg2 arg3 harg3 arg4 harg4 arg5 harg5 arg6 harg6 arg7 harg7 arg8 harg8) K } := by
  refine ⟨?_, ?_, ?_, fun E K => ?run⟩
  case run =>
    simp only [cc0_ssd_xbc_conv_eq_skeleton]; unfold cc0_ssd_xbc_conv_skel
    simp only [k0_part1_eq_skeleton, k0_part2_eq_skeleton]
    unfold k0_part1_skel k0_part2_skel
    simp only [hc, dite_true, dite_false, if_true, if_false]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact HS

set_option maxHeartbeats 1600000 in
/-- A point that continues a sequence. The lists of stores into the two results and into the carried rows are found by the run. -/
noncomputable def runNext (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : ¬ k0_cond1 i = 1#1)
    (x0 : Vec F S1024x4096 .bf16) (x1 : Vec F S1x4096x1024 .bf16) (x2 : Vec F S4x1024 .f32) (x3 : Vec F S1x1024 .f32) (d : Vec F S10x8x1024 .f32) :
    Σ' (L4 : List (View.Piece (Elt F) S1024x1024 .bf16)), Σ' (L5 : List (View.Piece (Elt F) S1x8x1024 .f32)), { LT : List (View.Piece (Elt F) S10x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ arg8.view.loc (c : Thread nD τ) ↦[arg8.view.set]{fullShare} arg8.view.writes (Elt F) (harg8.unread d) LT) -∗ K ⟨⟩))
          ⊢ wp frame (wpE (defs₀ (F := F)) Variants.none c none) E (cc0_ssd_xbc_conv i arg2 harg2 arg3 harg3 arg4 harg4 arg5 harg5 arg6 harg6 arg7 harg7 arg8 harg8) K } := by
  refine ⟨?_, ?_, ?_, fun E K => ?run⟩
  case run =>
    simp only [cc0_ssd_xbc_conv_eq_skeleton]; unfold cc0_ssd_xbc_conv_skel
    simp only [k0_part1_eq_skeleton, k0_part2_eq_skeleton]
    unfold k0_part1_skel k0_part2_skel
    simp only [hc, dite_true, dite_false, if_true, if_false]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact HS

end Cert.Kernel9Ideal.Conv

end
-- ==== Proof.ConvStep.lean ====
/- The convolution of the state-space mixer: what one grid point leaves in its results and in the rows it carries. -/
module

public import proofs.«01_k».proof.Proof.ConvRun
public import Idealize.ShloMosaic.Lib.Pipeline.ValueKit
public import Idealize.ShloMosaic.Lib.WritesUnit

@[expose] public section

set_option maxRecDepth 16384

noncomputable section

namespace Cert.Kernel9Ideal.Conv

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Tap `k` of the filter: row `k` of its block. -/
abbrev tap (x2 : Vec F S4x1024 .f32) (k : ℕ) (h : ∀ a : Fin 2, (![k, 0] : Fin 2 → ℕ) a + S1x1024.size a ≤ S4x1024.size a) : Vec F S1x1024 .f32 :=
  View.ld x2 (Rect.unit (s := S4x1024) ![k, 0] S1x1024.size h)

/-- The activation's block, from the input blocks and the last rows `p` of the tile before. -/
def act (x0 : Vec F S1024x4096 .bf16) (x1 : Vec F S1x4096x1024 .bf16) (x2 : Vec F S4x1024 .f32) (x3 : Vec F S1x1024 .f32)
    (p : FVec F S8x1024 .f32) : FVec F S1024x1024 .bf16 :=
  k0_pay1 (k0_pay9 (k0_pay3 x0 x1) p (iota .tc S8x1024 32 [0] iota_S8x1024_d0_w32) (k0_pay8 x0 x1 x3 (tap x2 3 inb_S4x1024_S1x1024_3_0))
      (tap x2 2 inb_S4x1024_S1x1024_2_0) (tap x2 1 inb_S4x1024_S1x1024_1_0) (tap x2 0 inb_S4x1024_S1x1024_0_0))
    (k0_pay10 (k0_pay3 x0 x1) p (iota .tc S8x1024 32 [0] iota_S8x1024_d0_w32) (k0_pay8 x0 x1 x3 (tap x2 3 inb_S4x1024_S1x1024_3_0))
      (tap x2 2 inb_S4x1024_S1x1024_2_0) (tap x2 1 inb_S4x1024_S1x1024_1_0) (tap x2 0 inb_S4x1024_S1x1024_0_0)) k0_pay11

/-- The rows carried for the point's columns. -/
abbrev slot (i : grid0.Coords) (d : Vec F S10x8x1024 .f32) : FVec F S8x1024 .f32 :=
  k0_pay7 (View.ld d (Rect.unit (s := S10x8x1024) (k0_off2 i) S1x8x1024.size (k0_off2_inb i)))

/-- The carried rows with those of the point's columns replaced. -/
def keep (i : grid0.Coords) (p : FVec F S8x1024 .f32) (d : Vec F S10x8x1024 .f32) : Vec F S10x8x1024 .f32 :=
  fun y => if (y 0).val = (i 1).val then p (ix2 (y 1) (y 2)) else d y

theorem off_eq : ∀ i : grid0.Coords, k0_off2 i = ![(i 1).val, 0, 0] ∧ k0_off1 i = ![(i 1).val, 0, 0] := by decide +kernel

/-- A store of rows `p` over the point's slot, read back after it. -/
theorem read_slot {κ : Kind} {sp : Space} (v : View sig κ sp S10x8x1024 .f32) (f : v.ty.Contents (Elt F)) (i : grid0.Coords) {off : Fin 3 → ℕ}
    (ho : off = ![(i 1).val, 0, 0]) (inb : ∀ a, off a + S1x8x1024.size a ≤ S10x8x1024.size a)
    (p : FVec F S8x1024 .f32) (L : List (View.Piece (Elt F) S10x8x1024 .f32)) :
    v.read (Elt F) (v.writes (Elt F) f (⟨Rect.unit (s := S10x8x1024) off S1x8x1024.size inb, k0_pay2 p⟩ :: L))
      = keep i p (v.read (Elt F) (v.writes (Elt F) f L)) := by
  funext y
  unfold keep
  by_cases h : (y 0).val = (i 1).val
  · rw [if_pos h, View.read_writes_cons_unit_of_mem v f inb _ L y (ix3 0 (y 1) (y 2)) ho (fun a => by
      fin_cases a
      · exact h
      · exact (Nat.zero_add _).symm
      · exact (Nat.zero_add _).symm)]
    pointwise [k0_pay2]
  · rw [if_neg h]
    exact View.read_writes_cons_unit_of_not_mem v f inb _ L y ho 0 (by
      show (y 0).val < (i 1).val ∨ (i 1).val + 1 ≤ (y 0).val
      omega)

/-- Of two replacements of the same slot the last one stands. -/
theorem keep_keep (i : grid0.Coords) (p q : FVec F S8x1024 .f32) (d : Vec F S10x8x1024 .f32) : keep i p (keep i q d) = keep i p d := by
  funext y
  unfold keep
  split_ifs <;> rfl

/-- The slot just stored, loaded. -/
theorem cleared {κ : Kind} {sp : Space} (v : View sig κ sp S10x8x1024 .f32) (i : grid0.Coords)
    (h1 : ∀ a, k0_off1 i a + S1x8x1024.size a ≤ S10x8x1024.size a) (h2 : ∀ a, k0_off2 i a + S1x8x1024.size a ≤ S10x8x1024.size a)
    (w : Vec F S1x8x1024 .f32) :
    v.readCov [(⟨Rect.unit (s := S10x8x1024) (k0_off1 i) S1x8x1024.size h1, w⟩ : View.Piece (Elt F) S10x8x1024 .f32)]
      (Rect.unit (s := S10x8x1024) (k0_off2 i) S1x8x1024.size h2).toLoadRect = w := by
  have e : k0_off1 i = k0_off2 i := (off_eq i).2.trans (off_eq i).1.symm
  revert h1
  rw [e]
  intro h1
  rw [View.readCov_eq_canon']
  funext j
  exact View.canon_cons_emb (Rect.unit (s := S10x8x1024) (k0_off2 i) S1x8x1024.size h2) w [] j

/-- The activation's block after a starting point. -/
theorem runFirst_act (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : k0_cond1 i = 1#1)
    (x0 : Vec F S1024x4096 .bf16) (x1 : Vec F S1x4096x1024 .bf16) (x2 : Vec F S4x1024 .f32) (x3 : Vec F S1x1024 .f32) (d : Vec F S10x8x1024 .f32) (f) :
    arg6.view.read (Elt F) (arg6.view.writes (Elt F) f (runFirst c i arg2 harg2 arg3 harg3 arg4 harg4 arg5 harg5 arg6 harg6 arg7 harg7 arg8 harg8 hc x0 x1 x2 x3 d).1) = act x0 x1 x2 x3 (k0_pay7 k0_pay6) := by
  rw [View.read_writes_eq_canon _ _ _ (fun y => View.cover_of_tiledL (runFirst c i arg2 harg2 arg3 harg3 arg4 harg4 arg5 harg5 arg6 harg6 arg7 harg7 arg8 harg8 hc x0 x1 x2 x3 d).1 S1024x1024.size (by sl_kernel_rfl) y)]
  unfold runFirst
  dsimp only []
  frame_out
  rw [cleared]
  rfl

/-- The last rows' block after a starting point. -/
theorem runFirst_tail (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : k0_cond1 i = 1#1)
    (x0 : Vec F S1024x4096 .bf16) (x1 : Vec F S1x4096x1024 .bf16) (x2 : Vec F S4x1024 .f32) (x3 : Vec F S1x1024 .f32) (d : Vec F S10x8x1024 .f32) (f) :
    arg7.view.read (Elt F) (arg7.view.writes (Elt F) f (runFirst c i arg2 harg2 arg3 harg3 arg4 harg4 arg5 harg5 arg6 harg6 arg7 harg7 arg8 harg8 hc x0 x1 x2 x3 d).2.1) = k0_pay5 x0 x1 := by
  rw [View.read_writes_eq_canon _ _ _ (fun y => View.cover_of_tiledL (runFirst c i arg2 harg2 arg3 harg3 arg4 harg4 arg5 harg5 arg6 harg6 arg7 harg7 arg8 harg8 hc x0 x1 x2 x3 d).2.1 S1x8x1024.size (by sl_kernel_rfl) y)]
  unfold runFirst
  dsimp only []
  frame_out

/-- The carried rows after a starting point. -/
theorem runFirst_keep (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : k0_cond1 i = 1#1)
    (x0 : Vec F S1024x4096 .bf16) (x1 : Vec F S1x4096x1024 .bf16) (x2 : Vec F S4x1024 .f32) (x3 : Vec F S1x1024 .f32) (d : Vec F S10x8x1024 .f32) :
    arg8.view.read (Elt F) (arg8.view.writes (Elt F) (harg8.unread d) (runFirst c i arg2 harg2 arg3 harg3 arg4 harg4 arg5 harg5 arg6 harg6 arg7 harg7 arg8 harg8 hc x0 x1 x2 x3 d).2.2.1) = keep i (k0_pay4 x0 x1) d := by
  unfold runFirst
  dsimp only []
  rw [read_slot _ _ i (off_eq i).1]
  unfold runFirst.sl.HS_1
  rw [show (k0_pay6 : FVec F S1x8x1024 .f32) = k0_pay2 (broadcast S8x1024 (Scalar.ofBits .f32 0x00000000#32)) from rfl, read_slot _ _ i (off_eq i).2, View.writes_nil, harg8.read_unread, keep_keep]
  congr 1
  simp only [View.readAt_eq_ld, harg2.read_unread, harg3.read_unread]
  congr 1 <;> exact View.ld_unit_lit _ _ (by decide)

/-- The activation's block after a continuing point. -/
theorem runNext_act (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : ¬ k0_cond1 i = 1#1)
    (x0 : Vec F S1024x4096 .bf16) (x1 : Vec F S1x4096x1024 .bf16) (x2 : Vec F S4x1024 .f32) (x3 : Vec F S1x1024 .f32) (d : Vec F S10x8x1024 .f32) (f) :
    arg6.view.read (Elt F) (arg6.view.writes (Elt F) f (runNext c i arg2 harg2 arg3 harg3 arg4 harg4 arg5 harg5 arg6 harg6 arg7 harg7 arg8 harg8 hc x0 x1 x2 x3 d).1) = act x0 x1 x2 x3 (slot i d) := by
  rw [View.read_writes_eq_canon _ _ _ (fun y => View.cover_of_tiledL (runNext c i arg2 harg2 arg3 harg3 arg4 harg4 arg5 harg5 arg6 harg6 arg7 harg7 arg8 harg8 hc x0 x1 x2 x3 d).1 S1024x1024.size (by sl_kernel_rfl) y)]
  unfold runNext
  dsimp only []
  frame_out
  rfl

/-- The last rows' block after a continuing point. -/
theorem runNext_tail (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : ¬ k0_cond1 i = 1#1)
    (x0 : Vec F S1024x4096 .bf16) (x1 : Vec F S1x4096x1024 .bf16) (x2 : Vec F S4x1024 .f32) (x3 : Vec F S1x1024 .f32) (d : Vec F S10x8x1024 .f32) (f) :
    arg7.view.read (Elt F) (arg7.view.writes (Elt F) f (runNext c i arg2 harg2 arg3 harg3 arg4 harg4 arg5 harg5 arg6 harg6 arg7 harg7 arg8 harg8 hc x0 x1 x2 x3 d).2.1) = k0_pay5 x0 x1 := by
  rw [View.read_writes_eq_canon _ _ _ (fun y => View.cover_of_tiledL (runNext c i arg2 harg2 arg3 harg3 arg4 harg4 arg5 harg5 arg6 harg6 arg7 harg7 arg8 harg8 hc x0 x1 x2 x3 d).2.1 S1x8x1024.size (by sl_kernel_rfl) y)]
  unfold runNext
  dsimp only []
  frame_out

/-- The carried rows after a continuing point. -/
theorem runNext_keep (c : Dev nD) (i : grid0.Coords) (arg2 : Memref sig .tc .vmem S1024x4096 .bf16) (harg2 : arg2.IsWhole) (arg3 : Memref sig .tc .vmem S1x4096x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x8x1024 .f32) (harg7 : arg7.IsWhole) (arg8 : Memref sig .tc .vmem S10x8x1024 .f32) (harg8 : arg8.IsWhole) (hc : ¬ k0_cond1 i = 1#1)
    (x0 : Vec F S1024x4096 .bf16) (x1 : Vec F S1x4096x1024 .bf16) (x2 : Vec F S4x1024 .f32) (x3 : Vec F S1x1024 .f32) (d : Vec F S10x8x1024 .f32) :
    arg8.view.read (Elt F) (arg8.view.writes (Elt F) (harg8.unread d) (runNext c i arg2 harg2 arg3 harg3 arg4 harg4 arg5 harg5 arg6 harg6 arg7 harg7 arg8 harg8 hc x0 x1 x2 x3 d).2.2.1) = keep i (k0_pay4 x0 x1) d := by
  unfold runNext
  dsimp only []
  rw [read_slot _ _ i (off_eq i).1, View.writes_nil, harg8.read_unread]
  congr 1
  simp only [View.readAt_eq_ld, harg2.read_unread, harg3.read_unread]
  congr 1 <;> exact View.ld_unit_lit _ _ (by decide)

end Cert.Kernel9Ideal.Conv

end
-- ==== Proof.ConvFrame.lean ====
/- The convolution of the state-space mixer: the whole call, point by point, with the rows it carries from one block of a sequence to the next. -/
module

public import proofs.«01_k».proof.Proof.ConvStep
public import Idealize.ShloMosaic.Lib.Claim

@[expose] public section

set_option maxRecDepth 16384

noncomputable section

namespace Cert.Kernel9Ideal.Conv

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the call starts: after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host operation writes is found as launched. -/
theorem kept (c : Dev nD) (b : Ref sig .tc) (h0 : b ≠ main_v0) (h1 : b ≠ main_v1) (h2 : b ≠ main_v2) (h3 : b ≠ main_v3) (h4 : b ≠ main_v4)
    (h5 : b ≠ main_v5) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What stands for a part of a weight block that no transfer fills; there is none. -/
def dflt0_1 : (cfg0.win 1).block.Idx → Elt F (cfg0.win 1).elt := fun _ => Classical.choice inferInstance

/-- The weights' block at a point, as a whole block. -/
def X0_1 (c : Dev nD) (t : Fin cfg0.N) : (cfg0.win 1).block.Idx → Elt F (cfg0.win 1).elt :=
  (cfg0.win 1).fill (cfg0.grid.coords t) dflt0_1 (iblk m c 1 t)

theorem xsize0_1 : ∀ t : Fin cfg0.N, ∀ a, (cfg0.win 1).xsize (cfg0.grid.coords t) a = (cfg0.win 1).size a := by decide +kernel

theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt

theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]

/-- The point's coordinates, and when its sequence starts. -/
theorem at_point : ∀ t : Fin cfg0.N, (grid0.coords t 0).val = t.val / 10 ∧ (grid0.coords t 1).val = t.val % 10
    ∧ (k0_cond1 (grid0.coords t) = 1#1 ↔ t.val / 10 % 2 = 0) :=
  (by decide +kernel : ∀ t : Fin grid0.N, _)

/-- The last eight rows of a point's projection tile. -/
def last (c : Dev nD) (t : Fin cfg0.N) : FVec F S8x1024 .f32 := k0_pay4 (iblk m c 0 t) (X0_1 m c t)

/-- The eight rows before a point's tile: none at the start of a sequence, else the last ones of the tile above. -/
def prev (c : Dev nD) (t : Fin cfg0.N) : FVec F S8x1024 .f32 :=
  if t.val / 10 % 2 = 0 then k0_pay7 k0_pay6 else last m c ⟨t.val - 10, by have := t.isLt; omega⟩

/-- The activation's block at a point. -/
def out4 (c : Dev nD) (t : Fin cfg0.N) : FVec F S1024x1024 .bf16 :=
  act (iblk m c 0 t) (X0_1 m c t) (iblk m c 2 t) (iblk m c 3 t) (prev m c t)

/-- The block of last rows at a point. -/
def out5 (c : Dev nD) (t : Fin cfg0.N) : FVec F S1x8x1024 .f32 := k0_pay5 (iblk m c 0 t) (X0_1 m c t)

/-- What the carried rows hold before point `n`: for each of the ten points before it, that point's last rows. -/
def Carried (c : Dev nD) (n : ℕ) (d : Vec F S10x8x1024 .f32) : Prop :=
  ∀ s : Fin cfg0.N, s.val < n → n ≤ s.val + 10 → ∀ (a : Fin 8) (b : Fin 1024),
    d (ix3 ⟨s.val % 10, Nat.mod_lt _ (by decide)⟩ a b) = last m c s (ix2 a b)

theorem carried_zero (c : Dev nD) (d : Vec F S10x8x1024 .f32) : Carried m c 0 d := fun s h => absurd h (Nat.not_lt_zero _)

/-- A point hands its own last rows on and leaves the others. -/
theorem carried_succ {c : Dev nD} {t : Fin cfg0.N} {d : Vec F S10x8x1024 .f32} (h : Carried m c t.val d) :
    Carried m c (t.val + 1) (keep (grid0.coords t) (last m c t) d) := by
  intro s h1 h2 a b
  have hj := (at_point t).2.1
  unfold keep
  by_cases hs : s = t
  · subst hs
    rw [if_pos (by rw [hj]; rfl)]
    rfl
  · have hne : s.val ≠ t.val := fun h => hs (Fin.ext h)
    rw [if_neg (by
      rw [hj]
      show ¬ s.val % 10 = t.val % 10
      omega)]
    exact h s (by omega) (by omega) a b

/-- At a continuing point the carried rows of its columns are the ones before its tile. -/
theorem slot_eq {c : Dev nD} {t : Fin cfg0.N} {d : Vec F S10x8x1024 .f32} (h : Carried m c t.val d) (ht : ¬ t.val / 10 % 2 = 0) :
    slot (grid0.coords t) d = prev m c t := by
  unfold prev
  rw [if_neg ht]
  funext y
  idx_vars y
  have e := h ⟨t.val - 10, by have := t.isLt; omega⟩ (by show t.val - 10 < t.val; omega) (by show t.val ≤ t.val - 10 + 10; omega) y0 y1
  refine Eq.trans ?_ e
  pointwise [slot, k0_pay7]
  have ho := (off_eq (grid0.coords t)).1
  have hj := (at_point t).2.1
  have hn : (t.val - 10) % 10 = t.val % 10 := by omega
  refine congrArg d (funext fun a => Fin.ext ?_)
  match a with
  | ⟨0, _⟩ =>
    show k0_off2 (grid0.coords t) 0 = (t.val - 10) % 10
    rw [ho, hn]
    exact hj
  | ⟨1, _⟩ =>
    show k0_off2 (grid0.coords t) 1 + y0.val = y0.val
    rw [ho]
    exact Nat.zero_add _
  | ⟨2, _⟩ =>
    show k0_off2 (grid0.coords t) 2 + y1.val = y1.val
    rw [ho]
    exact Nat.zero_add _

/-- The call's data: the arrays as found; after a point its argument blocks unchanged and its results' blocks; between points the carried rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => out4 m c t
    | ⟨5, _⟩ => out5 m c t
  Φ t := iprop((∃ d, ⌜Carried m c t.val d⌝ ∗ owns (c : Thread nD τ) (Memref.whole cc0_scratch0) fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = out5 m c t := by dsimp only [dats]

/-- The activations' block is in its buffer at every point. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans (by unfold Dat.fetched Dat.blockOf iblk; rw [A_eq]; rfl)

/-- The filter's block is in its buffer at every point. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans (by unfold Dat.fetched Dat.blockOf iblk; rw [A_eq]; rfl)

/-- The bias's block is in its buffer at every point. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]) t d).trans (by unfold Dat.fetched Dat.blockOf iblk; rw [A_eq]; rfl)

/-- The weights' block is in its buffer at every point. -/
theorem before0_1 (c : Dev nD) (t : Fin cfg0.N) (d) : (dats m 0 c).before 1 t d = X0_1 m c t :=
  ((dats m 0 c).before_in_eq_fetched 1 rfl (fun _ => rfl)
      (fun t t' h => funext fun a => congrArg (fun n => Pipeline.Clip.of n ((cfg0.win 1).size a) (S2x4096x18560.size a)) (congrFun h a))
      (fun t => by rw [after0_1]; unfold X0_1; rw [Pipeline.Window.cut_fill]; unfold Dat.blockOf iblk; rw [A_eq]) t d).trans
    (by unfold Dat.fetched X0_1; rw [fill0_1 t d dflt0_1]; unfold Dat.blockOf iblk; rw [A_eq])

/-- A window's buffer at a point. -/
abbrev ms (w : Fin 6) (t : Fin cfg0.N) := (win0 w).stage (cfg0.slots t w)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- The body at any point: the carried rows are those before its tile, and it hands its own last rows on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.castSucc = iprop((∃ d, ⌜Carried m c t.val d⌝ ∗ owns (c : Thread nD τ) (Memref.whole cc0_scratch0) fullShare d) ∗ (∃ r, prngReg c r)) from rfl,
    show (dats m 0 c).Φ t.succ = iprop((∃ d, ⌜Carried m c (t.val + 1) d⌝ ∗ owns (c : Thread nD τ) (Memref.whole cc0_scratch0) fullShare d) ∗ (∃ r, prngReg c r)) from rfl]
  iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
  by_cases ht : t.val / 10 % 2 = 0
  · iapply ((runFirst c (grid0.coords t) _ _ _ _ _ _ _ _ _ _ _ _ _ _ ((at_point t).2.2.mpr ht) (iblk m c 0 t) (X0_1 m c t) (iblk m c 2 t) (iblk m c 3 t) ds).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hg]
    · isplitl [HS]
      · iexists _; isplitr
        · ipureintro; exact carried_succ m hds
        unfold owns; iexists _; isplitr
        swap; · iexact HS
        ipureintro; exact runFirst_keep c _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out4 prev; rw [if_pos ht]; exact runFirst_act c _ _ _ _ _ _ _ _ _ _ _ _ _ _ _ _ _ _ _ _ _ _
    unfold owns; iexists _; isplitr
    swap; · iexact H5
    ipureintro; exact runFirst_tail c _ _ _ _ _ _ _ _ _ _ _ _ _ _ _ _ _ _ _ _ _ _
  · iapply ((runNext c (grid0.coords t) _ _ _ _ _ _ _ _ _ _ _ _ _ _ (fun h => ht ((at_point t).2.2.mp h)) (iblk m c 0 t) (X0_1 m c t) (iblk m c 2 t) (iblk m c 3 t) ds).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, ⟨%e4, H4⟩, ⟨%e5, H5⟩, HS⟩
    isplitl [HS Hg]
    · isplitl [HS]
      · iexists _; isplitr
        · ipureintro; exact carried_succ m hds
        unfold owns; iexists _; isplitr
        swap; · iexact HS
        ipureintro; exact runNext_keep c _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; unfold out4; rw [← slot_eq m hds ht]; exact runNext_act c _ _ _ _ _ _ _ _ _ _ _ _ _ _ _ _ _ _ _ _ _ _
    unfold owns; iexists _; isplitr
    swap; · iexact H5
    ipureintro; exact runNext_tail c _ _ _ _ _ _ _ _ _ _ _ _ _ _ _ _ _ _ _ _ _ _

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The carried rows as found, with nothing known of them. -/
theorem scratch_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- Before the first point nothing is known of the carried rows. -/
theorem enter (c : Dev nD) : (Pipeline.ΦA spec0 c : sProp 𝕄) ⊢ (dats m 0 c).Φ 0 := by
  rw [scratch_eq, show (dats m 0 c).Φ 0 = iprop((∃ d, ⌜Carried m c 0 d⌝ ∗ owns (c : Thread nD τ) (Memref.whole cc0_scratch0) fullShare d) ∗ (∃ r, prngReg c r)) from rfl]
  iintro ⟨⟨%d, H⟩, Hg⟩
  isplitl [H]
  · iexists d; isplitr
    · ipureintro; exact carried_zero m c d
    iexact H
  iexact Hg

/-- After the last point they are given back. -/
theorem leave (c : Dev nD) : (dats m 0 c).Φ (Fin.last cfg0.N) ⊢ (Pipeline.ΦA spec0 c : sProp 𝕄) := by
  rw [scratch_eq, show (dats m 0 c).Φ (Fin.last cfg0.N) = iprop((∃ d, ⌜Carried m c cfg0.N d⌝ ∗ owns (c : Thread nD τ) (Memref.whole cc0_scratch0) fullShare d) ∗ (∃ r, prngReg c r)) from rfl]
  iintro ⟨⟨%d, %hd, H⟩, Hg⟩
  isplitl [H]
  · iexists d; iexact H
  iexact Hg

set_option backward.isDefEq.respectTransparency.types false in
/-- Every run of the program ends, its arrays as the data say and its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- A run that ends so leaves the arguments as they were. -/
theorem unchanged (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have h := h c
  ⟨(h.1 0).trans (((dats m 0 c).arrAt_in 0 rfl _).trans ((A_eq m c 0).trans (kept m c main_arg0 (by decide) (by decide) (by decide) (by decide) (by decide) (by decide)))),
    (h.2 main_arg1 (Pipeline.mem_restRefs_of main_arg1 (by decide) (by decide))).trans (kept m c main_arg1 (by decide) (by decide) (by decide) (by decide) (by decide) (by decide)),
    (h.2 main_arg2 (Pipeline.mem_restRefs_of main_arg2 (by decide) (by decide))).trans (kept m c main_arg2 (by decide) (by decide) (by decide) (by decide) (by decide) (by decide)),
    (h.2 main_arg3 (Pipeline.mem_restRefs_of main_arg3 (by decide) (by decide))).trans (kept m c main_arg3 (by decide) (by decide) (by decide) (by decide) (by decide) (by decide))⟩

/-- The program leaves its arguments as they were, and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨unchanged m r h.1, h.2⟩) (run_main_quiescent m ρ)

end Cert.Kernel9Ideal.Conv

end
-- ==== Proof.BitsConv.lean ====
/- The convolution of the state-space mixer: the kernel's frame, from the ideal kernel's. The two differ in one named constant, and read with that name standing for its float word they are one program. -/
module

public import proofs.«01_k».proof.Proof.ConvFrame
public import proofs.«01_k».proof.Proof.Gen.Kernel9

@[expose] public section

set_option maxRecDepth 16384

noncomputable section

namespace Cert.Kernel9.Conv

open Cert.Kernel9
open Idealize.ShloMosaic Idealize.ShloMosaic.TcCoe
open Idealize.SL Idealize.SL.Sem

variable {F : FTy → Type} [FloatOps F]

/-- Every name stands for its float word. -/
@[reducible] def words : Named F := ⟨fun _ _ φ b => FloatOps.ofBits φ b⟩

/-- So read, one grid point of the ideal kernel is one of the kernel. -/
theorem body_eq : (letI := words (F := F); Cert.Kernel9Ideal.cc0_ssd_xbc_conv (F := F)) = cc0_ssd_xbc_conv (F := F) := rfl

/-- So read, the ideal kernel's table of bodies is the kernel's. -/
theorem defs₀_eq : (letI := words (F := F); Cert.Kernel9Ideal.defs₀ (F := F)) = defs₀ (F := F) := by
  unfold Cert.Kernel9Ideal.defs₀ defs₀
  refine congrArg Defs.onTc (funext fun l => ?_)
  match l with
  | ⟨0, _⟩ => exact funext fun _ => rfl

/-- So read, the ideal kernel's calls are the kernel's. -/
theorem defs_eq : (letI := words (F := F); Cert.Kernel9Ideal.defs (F := F)) = defs (F := F) :=
  congrArg (Pipeline.defs pcfgs) defs₀_eq

/-- So read, the ideal kernel's program is the kernel's. -/
theorem main_eq : (letI := words (F := F); Cert.Kernel9Ideal.main (F := F)) = main (F := F) := rfl

variable (m : (ℓ : Loc nD τ sig) → Buf (Elt F) ℓ) (ρ : Dev nD → PrngReg)

/-- The kernel ends without fault, with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Eq.mp (congrArg (fun D => θ_run D (onTc (τ := τ) (main (F := F))) ⟨m, fun _ => 0, ρ⟩ _) defs_eq)
    (letI := words (F := F); Cert.Kernel9Ideal.Conv.frame (F := F) m ρ)

end Cert.Kernel9.Conv

end
-- ==== Proof.Online.lean ====
/- A softmax-weighted sum computed block by block with a running maximum, over the extended reals: one row's
   state, what a block does to it, and what the quotient at the end is. Nothing here speaks of a program. -/
module

public import Idealize.ShloMosaic.Lib.Pointwise

@[expose] public section

noncomputable section

namespace Cert.Online

open Idealize.ShloMosaic

/-- A number of base-two scale `-μ`, as a factor. -/
def sc (μ : ℝ) : ℝ := (2 : ℝ) ^ (-μ)

theorem sc_pos (μ : ℝ) : 0 < sc μ := Real.rpow_pos_of_pos (by norm_num) _

/-- Multiplying a finite sum of extended reals by a real that is not negative. -/
theorem mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The sum of reals, as an extended real. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score: none for a masked one (`none`), else two to the score. -/
def wt : Option ℝ → ℝ
  | none => 0
  | some x => (2 : ℝ) ^ x

theorem wt_nonneg (s : Option ℝ) : 0 ≤ wt s := by
  cases s with
  | none => exact le_refl _
  | some x => exact (Real.rpow_pos_of_pos (by norm_num) _).le

/-- A score as an extended real, a masked one minus infinity. -/
def er : Option ℝ → EReal
  | none => ⊥
  | some x => (x : EReal)

/-- Two to the score, less the reference point. -/
theorem exp2_er (s : Option ℝ) (fq μ : ℝ) :
    Ideal.exp2 (er s + ((fq : EReal) - (μ : EReal))) = ((sc μ * wt (s.map (· + fq)) : ℝ) : EReal) := by
  cases s with
  | none => simp [er, wt]
  | some x =>
    have : er (some x) + ((fq : EReal) - (μ : EReal)) = ((-μ + (x + fq) : ℝ) : EReal) := by
      simp only [er]; rw [← EReal.coe_sub, ← EReal.coe_add]; congr 1; ring
    rw [this, Ideal.exp2_coe]
    congr 1
    show (2 : ℝ) ^ (-μ + (x + fq)) = sc μ * (2 : ℝ) ^ (x + fq)
    rw [Real.rpow_add (by norm_num)]; rfl

/-- The factor that carries a state from one reference point to the next. -/
theorem exp2_shift (μ ν : ℝ) : Ideal.exp2 ((μ : EReal) - (ν : EReal)) = ((2 : ℝ) ^ (μ - ν) : ℝ) := by
  rw [← EReal.coe_sub, Ideal.exp2_coe]; rfl

theorem shift_sc (μ ν : ℝ) : (2 : ℝ) ^ (μ - ν) * sc μ = sc ν := by
  unfold sc
  rw [← Real.rpow_add (by norm_num)]; congr 1; ring

/-- A row's state: the running maximum `m`, the sum of weights `l` and, per column, the weighted sum `a`, stand for
    the sums `S` and `A` scaled by the reference point; before the first block all is empty. -/
def RowInv {δ : Type} (m : EReal) (l : EReal) (a : δ → EReal) (S : ℝ) (A : δ → EReal) : Prop :=
  (m = ⊥ ∧ l = 0 ∧ (∀ d, a d = 0) ∧ S = 0 ∧ ∀ d, A d = 0)
  ∨ ∃ μ : ℝ, m = μ ∧ l = ((sc μ * S : ℝ) : EReal) ∧ ∀ d, a d = (sc μ : EReal) * A d

/-- The next running maximum of a block with at least one score that is not masked is real. -/
theorem max_real {n : ℕ} {m : EReal} (hm : m = ⊥ ∨ ∃ μ : ℝ, m = μ) (s : Fin n → Option ℝ) (fq : ℝ)
    (hs : ∃ c x, s c = some x) :
    ∃ ν : ℝ, max m (Finset.univ.fold max ⊥ (fun c => er (s c)) + (fq : EReal)) = (ν : EReal) := by
  have h1 : Finset.univ.fold max ⊥ (fun c => er (s c)) < ⊤ := by
    rw [Finset.fold_max_lt]
    refine ⟨bot_lt_top, fun c _ => ?_⟩
    cases h : s c with
    | none => exact bot_lt_top
    | some x => exact EReal.coe_lt_top x
  have h2 : ⊥ < Finset.univ.fold max ⊥ (fun c => er (s c)) := by
    obtain ⟨c, x, hc⟩ := hs
    refine lt_of_lt_of_le (EReal.bot_lt_coe x) ?_
    rw [Finset.le_fold_max]
    exact Or.inr ⟨c, Finset.mem_univ _, by rw [hc]; exact le_refl _⟩
  obtain ⟨y, hy⟩ : ∃ y : ℝ, Finset.univ.fold max ⊥ (fun c => er (s c)) = (y : EReal) :=
    ⟨_, (EReal.coe_toReal h1.ne h2.ne').symm⟩
  rw [hy, ← EReal.coe_add]
  rcases hm with rfl | ⟨μ, rfl⟩
  · exact ⟨y + fq, max_eq_right bot_le⟩
  · exact ⟨max μ (y + fq), (EReal.coe_strictMono.monotone.map_max).symm⟩

theorem RowInv.m_cases {δ : Type} {m l : EReal} {a : δ → EReal} {S : ℝ} {A : δ → EReal} (h : RowInv m l a S A) :
    m = ⊥ ∨ ∃ μ : ℝ, m = μ := by
  rcases h with ⟨h, _⟩ | ⟨μ, h, _⟩
  · exact Or.inl h
  · exact Or.inr ⟨μ, h⟩

/-- One block: the state moves to the next reference point and takes the block's weights in. -/
theorem RowInv.step {δ : Type} {n : ℕ} {m l : EReal} {a : δ → EReal} {S : ℝ} {A : δ → EReal}
    (h : RowInv m l a S A) (s : Fin n → Option ℝ) (fq ν : ℝ) (v : Fin n → δ → EReal) :
    RowInv (ν : EReal)
      (Ideal.exp2 (m - (ν : EReal)) * l + ∑ c, Ideal.exp2 (er (s c) + ((fq : EReal) - (ν : EReal))))
      (fun d => Ideal.exp2 (m - (ν : EReal)) * a d
        + ∑ c, Ideal.exp2 (er (s c) + ((fq : EReal) - (ν : EReal))) * v c d)
      (S + ∑ c, wt ((s c).map (· + fq)))
      (fun d => A d + ∑ c, ((wt ((s c).map (· + fq)) : ℝ) : EReal) * v c d) := by
  right
  refine ⟨ν, rfl, ?_, fun d => ?_⟩
  · have hl : Ideal.exp2 (m - (ν : EReal)) * l = ((sc ν * S : ℝ) : EReal) := by
      rcases h with ⟨rfl, rfl, _, rfl, _⟩ | ⟨μ, rfl, rfl, _⟩
      · simp
      · rw [exp2_shift, ← EReal.coe_mul, ← mul_assoc, shift_sc]
    rw [hl, mul_add, Finset.mul_sum, EReal.coe_add, coe_sum]
    simp only [exp2_er]
  · have ha : Ideal.exp2 (m - (ν : EReal)) * a d = (sc ν : EReal) * A d := by
      rcases h with ⟨rfl, _, h, _, h'⟩ | ⟨μ, rfl, _, h⟩
      · rw [h d, h' d]; simp
      · rw [h d, exp2_shift, ← mul_assoc, ← EReal.coe_mul, shift_sc]
    show _ + _ = (sc ν : EReal) * (A d + _)
    rw [ha, EReal.left_distrib_of_nonneg_of_ne_top (by exact_mod_cast (sc_pos ν).le) (EReal.coe_ne_top _),
      mul_sum _ _ (sc_pos ν).le]
    congr 1
    refine Finset.sum_congr rfl fun c _ => ?_
    rw [exp2_er, EReal.coe_mul, mul_assoc]

/-- The quotient at the end forgets the reference point. -/
theorem RowInv.quot {δ : Type} {m l : EReal} {a : δ → EReal} {S : ℝ} {A : δ → EReal}
    (h : RowInv m l a S A) (hS : 0 < S) (d : δ) : Ideal.div (a d) l = A d * ((1 / S : ℝ) : EReal) := by
  rcases h with ⟨_, _, _, h, _⟩ | ⟨μ, _, rfl, h⟩
  · exact absurd h hS.ne'
  · have hne : sc μ * S ≠ 0 := (mul_pos (sc_pos μ) hS).ne'
    rw [Ideal.div_coe hne, h d, mul_comm (sc μ : EReal), mul_assoc, ← EReal.coe_mul]
    congr 2
    have := (sc_pos μ).ne'
    field_simp

/-- The same sum by the softmax as it is written: exponentials less the row's maximum, each divided by their sum. -/
theorem softmax_sum {n : ℕ} (t : Fin n → Option ℝ) (w : Fin n → ℝ)
    (hw : ∀ k, w k = match t k with | none => 0 | some x => Real.exp x) (ht : ∃ c x, t c = some x)
    (v : Fin n → EReal) :
    ∑ k, Ideal.div (Ideal.exp (er (t k) - Finset.univ.fold max ⊥ (fun c => er (t c))))
        (∑ c, Ideal.exp (er (t c) - Finset.univ.fold max ⊥ (fun c => er (t c)))) * v k
      = (∑ k, (w k : EReal) * v k) * ((1 / ∑ k, w k : ℝ) : EReal) := by
  obtain ⟨M, hM⟩ := max_real (m := ⊥) (Or.inl rfl) t 0 ht
  rw [max_eq_right bot_le, EReal.coe_zero, add_zero] at hM
  have hwn : ∀ k, 0 ≤ w k := fun k => by rw [hw]; cases t k with
    | none => exact le_refl _
    | some x => exact (Real.exp_pos x).le
  have hS : 0 < ∑ k, w k := by
    obtain ⟨c, x, hc⟩ := ht
    exact Finset.sum_pos' (fun k _ => hwn k) ⟨c, Finset.mem_univ _, by rw [hw, hc]; exact Real.exp_pos x⟩
  have he : ∀ k, Ideal.exp (er (t k) - (M : EReal)) = ((Real.exp (-M) * w k : ℝ) : EReal) := fun k => by
    rw [hw]
    cases t k with
    | none => simp [er]
    | some x =>
      show Ideal.exp ((x : EReal) - (M : EReal)) = _
      rw [← EReal.coe_sub, Ideal.exp_coe, ← Real.exp_add]; congr 2; ring
  have hE := Real.exp_pos (-M)
  rw [hM]
  simp only [he]
  rw [← coe_sum, ← Finset.mul_sum, mul_comm _ ((1 / ∑ k, w k : ℝ) : EReal), mul_sum _ _ (by positivity)]
  refine Finset.sum_congr rfl fun k _ => ?_
  rw [Ideal.div_coe (mul_pos hE hS).ne', ← EReal.coe_mul, ← mul_assoc, ← EReal.coe_mul]
  congr 2
  field_simp

/-! ## The attention of one layer, as a formula -/

/-- The scale of the logits: one over the square root of 128, as a 32-bit float has it. -/
def sq : ℝ := 11863283 * 134217728⁻¹

/-- A logit: the scaled product of a query and a key, and the difference of their forget sums. -/
def lg (q k : Fin 128 → ℝ) (fr fc : ℝ) : ℝ := (∑ e, q e * k e) * sq + fr - fc

/-- The weight of key `C` for query `R`. -/
def W (q' k' : Fin 2048 → Fin 128 → ℝ) (f' : Fin 2048 → ℝ) (R C : Fin 2048) : ℝ :=
  if C ≤ R then Real.exp (lg (q' R) (k' C) (f' R) (f' C)) else 0

/-- Row `C` of sequence `b`, among all rows. -/
def row (b : Fin 4) (C : Fin 2048) : Fin 8192 := ⟨b.val * 2048 + C.val, by omega⟩

/-- Column `e` of head `h`, among all columns. -/
def col (h : Fin 32) (e : Fin 128) : Fin 4096 := ⟨h.val * 128 + e.val, by omega⟩

/-- The weights of sequence `b` and head `h`. -/
def WA (q k : Fin 8192 → Fin 4096 → ℝ) (f : Fin 4 → Fin 2048 → Fin 32 → ℝ) (b : Fin 4) (h : Fin 32) :
    Fin 2048 → Fin 2048 → ℝ :=
  W (fun R e => q (row b R) (col h e)) (fun C e => k (row b C) (col h e)) (fun R => f b R h)

/-- The gated attention at row `R` of sequence `b` and column `e` of head `h`. -/
def ATT (q k : Fin 8192 → Fin 4096 → ℝ) (f : Fin 4 → Fin 2048 → Fin 32 → ℝ) (v z : Fin 8192 → Fin 4096 → EReal)
    (b : Fin 4) (h : Fin 32) (R : Fin 2048) (e : Fin 128) : EReal :=
  (∑ C, ((WA q k f b h R C : ℝ) : EReal) * v (row b C) (col h e)) * ((1 / ∑ C, WA q k f b h R C : ℝ) : EReal)
    * (z (row b R) (col h e) * Ideal.div 1 (1 + Ideal.exp (-z (row b R) (col h e))))

end Cert.Online

end
-- ==== Proof.Step.lean ====
/- One step of the kernel's row tile over a key tile, read at a row and a column over the extended reals: the scores,
   the running maximum, the sum of weights and the weighted sum. -/
module

public import proofs.«01_k».proof.Proof.Gen.KernelIdeal.Skeleton
public import proofs.«01_k».proof.Proof.Gen.KernelIdeal
public import proofs.«01_k».proof.Proof.Online
public import Idealize.ShloMosaic.Lib.WordCmp

@[expose] public section

set_option maxRecDepth 16384

noncomputable section

open Idealize.ShloMosaic Idealize.ShloMosaic.TcCoe Idealize.SL.Sem

namespace Cert.KernelIdeal.Value

open Cert.KernelIdeal Cert.KernelIdeal.Gen Cert.Online

/-- The reciprocal of the natural logarithm of two. -/
def ln2i : ℝ := (Real.log 2)⁻¹

theorem log2e_eq : (Named.named κ "log2e" 0x3FB8AA3B#32 : Ideal .f32) = ((ln2i : ℝ) : EReal) := rfl
theorem neg_log2e_eq : (Named.named κ "neg_log2e" 0xBFB8AA3B#32 : Ideal .f32) = ((-ln2i : ℝ) : EReal) := rfl
theorem qk_scale_eq : (Named.named κ "qk_scale" 0x3E0293EE#32 : Ideal .f32) = ((sq * ln2i : ℝ) : EReal) := rfl

/-- Two to a number divided by the logarithm of two is the exponential. -/
theorem two_rpow (t : ℝ) : (2 : ℝ) ^ (t * ln2i) = Real.exp t := by
  rw [Real.rpow_def_of_pos (by norm_num)]
  congr 1
  have : Real.log 2 ≠ 0 := (Real.log_pos (by norm_num)).ne'
  unfold ln2i
  field_simp

theorem ofBits_neg_inf : Ideal.ofBits .f32 0xFF800000#32 = ⊥ := by simp [Ideal.ofBits, Ideal.ieee]

/-- The state of a row tile: running maximum and sum of weights (every lane the same), and the weighted sum. -/
structure St where
  /-- the running maximum -/
  m : FVec Ideal S512x128 .f32
  /-- the sum of weights -/
  l : FVec Ideal S512x128 .f32
  /-- the weighted sum of values -/
  a : FVec Ideal S512x128 .f32

/-- The state a row tile starts from. -/
def initSt : St := ⟨k0_pay39, k0_pay40, k0_pay41⟩

/-- The state after a key tile with scores `s`, values `v` and forget sums `fq` of the row. -/
def stepSt (s : FVec Ideal S512x512 .f32) (fq : FVec Ideal S512x128 .f32) (v : FVec Ideal S512x128 .bf16) (st : St) : St :=
  ⟨k0_pay55 s fq st.m, k0_pay53 s fq st.m st.l, k0_pay54 v s fq st.m st.a⟩

/-- What a state stands for, row by row. -/
def Inv (st : St) (S : Fin 512 → ℝ) (A : Fin 512 → Fin 128 → EReal) : Prop :=
  ∀ r : Fin 512, ∃ m l : EReal, (∀ d : Fin 128, st.m (ix2 r d) = m) ∧ (∀ d : Fin 128, st.l (ix2 r d) = l)
    ∧ RowInv m l (fun d : Fin 128 => st.a (ix2 r d)) (S r) (A r)

theorem Inv.init : Inv initSt (fun _ => 0) (fun _ _ => 0) := by
  refine fun r => ⟨⊥, 0, fun d => ?_, fun d => ?_, Or.inl ⟨rfl, rfl, fun d => ?_, rfl, fun _ => rfl⟩⟩
  · show k0_pay39 (F := Ideal) (ix2 r d) = _
    pointwise [k0_pay39]
    exact ofBits_neg_inf
  · show k0_pay40 (F := Ideal) (ix2 r d) = _
    pointwise [k0_pay40]
  · show k0_pay41 (F := Ideal) (ix2 r d) = _
    pointwise [k0_pay41]

section At
variable (r : Fin 512) (d : Fin 128) (c : Fin 512)

theorem fq_at (f : Vec Ideal S1x1x1x1x512 .f32) :
    k0_pay38 f (ix2 r d) = f (ix5 0 0 0 0 r) * ((ln2i : ℝ) : EReal) := by
  pointwise [k0_pay38]
  rw [log2e_eq]

theorem s_at (q k : Vec Ideal S512x128 .bf16) (f : Vec Ideal S1x1x1x1x512 .f32) :
    k0_pay49 q k f (ix2 r c) = (∑ e : Fin 128, q (ix2 r e) * k (ix2 c e)) * ((sq * ln2i : ℝ) : EReal)
      - f (ix5 0 0 0 0 c) * ((ln2i : ℝ) : EReal) := by
  pointwise [k0_pay49]
  rw [log2e_eq, qk_scale_eq]

/-- A select on a comparison of two small words. -/
theorem select_sle {n : ℕ} (hn : n ≤ 2048) (a b : Fin n) (x y : EReal) :
    Scalar.select (IntOp.cmpi CmpIPredicate.sle (BitVec.ofNat 32 a.val) (BitVec.ofNat 32 b.val)) x y
      = if a ≤ b then x else y := by
  have ha := a.isLt
  have hb := b.isLt
  rw [WordCmp.cmpi_sle_ofNat (by omega) (by omega), WordCmp.select_decide]
  rfl

theorem sm_at (q k : Vec Ideal S512x128 .bf16) (f : Vec Ideal S1x1x1x1x512 .f32) :
    k0_pay57 (k0_pay56 q k) f (ix2 r c) = if c ≤ r then
      (∑ e : Fin 128, q (ix2 r e) * k (ix2 c e)) * ((sq * ln2i : ℝ) : EReal)
      - f (ix5 0 0 0 0 c) * ((ln2i : ℝ) : EReal) else ⊥ := by
  pointwise [k0_pay57, k0_pay56]
  rw [log2e_eq, qk_scale_eq, ofBits_neg_inf]
  exact select_sle (by norm_num) c r _ _

variable (s : FVec Ideal S512x512 .f32) (fq m l a : FVec Ideal S512x128 .f32) (v : FVec Ideal S512x128 .bf16)

theorem m_at : k0_pay50 s fq m (ix2 r d)
    = max (m (ix2 r d)) (Finset.univ.fold max ⊥ (fun c : Fin 512 => s (ix2 r c)) + fq (ix2 r d)) := by
  pointwise [k0_pay50]
  rw [ofBits_neg_inf]

theorem m'_at : k0_pay55 s fq m (ix2 r d) = k0_pay50 s fq m (ix2 r d) := by
  pointwise [k0_pay55]

variable {s fq m} {φ μ : EReal} (hfq : ∀ d, fq (ix2 r d) = φ) (hm : ∀ d, k0_pay50 s fq m (ix2 r d) = μ)
include hfq hm

theorem l_at : k0_pay53 s fq m l (ix2 r d) = Ideal.exp2 (m (ix2 r d) - μ) * l (ix2 r d)
    + ∑ c : Fin 512, Ideal.exp2 (s (ix2 r c) + (φ - μ)) := by
  pointwise [k0_pay53, k0_pay52, k0_pay51]
  simp only [hfq, hm, dite_eq_ite, ite_self]
  rfl

theorem a_at : k0_pay54 v s fq m a (ix2 r d) = Ideal.exp2 (m (ix2 r d) - μ) * a (ix2 r d)
    + ∑ c : Fin 512, Ideal.exp2 (s (ix2 r c) + (φ - μ)) * v (ix2 c d) := by
  pointwise [k0_pay54, k0_pay52, k0_pay51]
  simp only [hfq, hm, dite_eq_ite, ite_self]
  rfl

end At

/-- One key tile. -/
theorem Inv.step {st : St} {S : Fin 512 → ℝ} {A : Fin 512 → Fin 128 → EReal} (h : Inv st S A)
    (s : FVec Ideal S512x512 .f32) (fq : FVec Ideal S512x128 .f32) (v : FVec Ideal S512x128 .bf16)
    (σ : Fin 512 → Fin 512 → Option ℝ) (φ : Fin 512 → ℝ)
    (hs : ∀ r c, s (ix2 r c) = er (σ r c)) (hφ : ∀ r d, fq (ix2 r d) = ((φ r : ℝ) : EReal))
    (hr : ∀ r, ∃ c x, σ r c = some x) :
    Inv (stepSt s fq v st) (fun r => S r + ∑ c, wt ((σ r c).map (· + φ r)))
      (fun r d => A r d + ∑ c, ((wt ((σ r c).map (· + φ r)) : ℝ) : EReal) * v (ix2 c d)) := by
  intro r
  obtain ⟨m, l, hm, hl, hI⟩ := h r
  obtain ⟨ν, hν⟩ := max_real hI.m_cases (σ r) (φ r) (hr r)
  have hM : ∀ d, k0_pay50 s fq st.m (ix2 r d) = (ν : EReal) := fun d => by
    rw [m_at, hm, hφ, ← hν]
    simp only [hs]
  refine ⟨ν, Ideal.exp2 (m - (ν : EReal)) * l + ∑ c, Ideal.exp2 (er (σ r c) + (((φ r : ℝ) : EReal) - (ν : EReal))),
    fun d => (m'_at r d s fq st.m).trans (hM d), fun d => (l_at r d st.l (hφ r) hM).trans ?_, ?_⟩
  · rw [hm, hl]
    simp only [hs]
  · have := hI.step (σ r) (φ r) ν (fun c d => v (ix2 c d))
    refine Eq.mp ?_ this
    congr 1
    funext d
    refine Eq.symm ((a_at r d st.a v (hφ r) hM).trans ?_)
    rw [hm]
    simp only [hs]

end Cert.KernelIdeal.Value

end
-- ==== Proof.Tile.lean ====
/- The kernel's four row tiles of a block, each over the key tiles up to its own: what the block's output holds, as one
   formula over all 2048 rows and keys. -/
module

public import proofs.«01_k».proof.Proof.Step

@[expose] public section

set_option maxRecDepth 16384

noncomputable section

open Idealize.ShloMosaic Idealize.ShloMosaic.TcCoe Idealize.SL.Sem

namespace Cert.KernelIdeal.Value

open Cert.KernelIdeal Cert.KernelIdeal.Gen Cert.Online

/-- The weight of a logit as the step lemma has it. -/
theorem wt_lg (q k : Fin 128 → ℝ) (fr fc : ℝ) :
    wt ((some ((∑ e, q e * k e) * (sq * ln2i) - fc * ln2i)).map (· + fr * ln2i)) = Real.exp (lg q k fr fc) := by
  show (2 : ℝ) ^ _ = _
  rw [← two_rpow]
  congr 1
  unfold lg
  ring

theorem score_er (q k : Fin 128 → ℝ) (fc : ℝ) :
    (∑ e, (q e : EReal) * (k e : EReal)) * ((sq * ln2i : ℝ) : EReal) - (fc : EReal) * ((ln2i : ℝ) : EReal)
      = er (some ((∑ e, q e * k e) * (sq * ln2i) - fc * ln2i)) := by
  simp only [← EReal.coe_mul]
  rw [← coe_sum, ← EReal.coe_mul, ← EReal.coe_sub]
  rfl

section Steps
variable {st : St} {S : Fin 512 → ℝ} {A : Fin 512 → Fin 128 → EReal} (h : Inv st S A)
  (q k v : Vec Ideal S512x128 .bf16) (fr fc : Vec Ideal S1x1x1x1x512 .f32)
  {q' k' : Fin 512 → Fin 128 → ℝ} {fr' fc' : Fin 512 → ℝ}
  (hq : ∀ r e, q (ix2 r e) = ((q' r e : ℝ) : EReal)) (hk : ∀ r e, k (ix2 r e) = ((k' r e : ℝ) : EReal))
  (hfr : ∀ r, fr (ix5 0 0 0 0 r) = ((fr' r : ℝ) : EReal)) (hfc : ∀ r, fc (ix5 0 0 0 0 r) = ((fc' r : ℝ) : EReal))
include h hq hk hfr hfc

/-- A key tile before the row tile's own. -/
theorem Inv.unmasked : Inv (stepSt (k0_pay49 q k fc) (k0_pay38 fr) v st)
    (fun r => S r + ∑ c, Real.exp (lg (q' r) (k' c) (fr' r) (fc' c)))
    (fun r d => A r d + ∑ c, ((Real.exp (lg (q' r) (k' c) (fr' r) (fc' c)) : ℝ) : EReal) * v (ix2 c d)) := by
  have := h.step (k0_pay49 q k fc) (k0_pay38 fr) v
    (fun r c => some ((∑ e, q' r e * k' c e) * (sq * ln2i) - fc' c * ln2i)) (fun r => fr' r * ln2i)
    (fun r c => by rw [s_at]; simp only [hq, hk, hfc]; exact score_er _ _ _)
    (fun r d => by rw [fq_at, hfr]; exact (EReal.coe_mul _ _).symm)
    (fun r => ⟨0, _, rfl⟩)
  simpa only [wt_lg] using this

/-- The row tile's own key tile, masked above the diagonal. -/
theorem Inv.masked : Inv (stepSt (k0_pay57 (k0_pay56 q k) fc) (k0_pay38 fr) v st)
    (fun r => S r + ∑ c, if c ≤ r then Real.exp (lg (q' r) (k' c) (fr' r) (fc' c)) else 0)
    (fun r d => A r d + ∑ c, (((if c ≤ r then Real.exp (lg (q' r) (k' c) (fr' r) (fc' c)) else 0) : ℝ) : EReal)
      * v (ix2 c d)) := by
  have := h.step (k0_pay57 (k0_pay56 q k) fc) (k0_pay38 fr) v
    (fun r c => if c ≤ r then some ((∑ e, q' r e * k' c e) * (sq * ln2i) - fc' c * ln2i) else none)
    (fun r => fr' r * ln2i)
    (fun r c => by
      rw [sm_at]
      by_cases hc : c ≤ r
      · rw [if_pos hc, if_pos hc]; simp only [hq, hk, hfc]; exact score_er _ _ _
      · rw [if_neg hc, if_neg hc]; rfl)
    (fun r d => by rw [fq_at, hfr]; exact (EReal.coe_mul _ _).symm)
    (fun r => ⟨r, _, if_pos (le_refl r)⟩)
  have e : ∀ r c, wt ((if c ≤ r then some ((∑ e, q' r e * k' c e) * (sq * ln2i) - fc' c * ln2i) else none).map
      (· + fr' r * ln2i)) = if c ≤ r then Real.exp (lg (q' r) (k' c) (fr' r) (fc' c)) else 0 := fun r c => by
    by_cases hc : c ≤ r
    · rw [if_pos hc, if_pos hc, wt_lg]
    · rw [if_neg hc, if_neg hc]; rfl
  simpa only [e] using this

end Steps

/-- Row `r` of tile `i`, among the 2048. -/
def tl (i : Fin 4) (r : Fin 512) : Fin 2048 := ⟨i.val * 512 + r.val, by omega⟩

theorem inb_tile (i : Fin 4) : ∀ a, (![i.val * 512, 0] : Fin 2 → Nat) a + S512x128.size a ≤ S2048x128.size a := by
  intro a
  fin_cases a
  · show i.val * 512 + 512 ≤ 2048
    omega
  · show 0 + 128 ≤ 128
    omega

theorem inb_ftile (i : Fin 4) :
    ∀ a, (![0, 0, i.val, 0, 0] : Fin 5 → Nat) a + S1x1x1x1x512.size a ≤ S1x1x4x1x512.size a := by
  intro a
  have := i.isLt
  fin_cases a
  · show 0 + 1 ≤ 1
    omega
  · show 0 + 1 ≤ 1
    omega
  · show i.val + 1 ≤ 4
    omega
  · show 0 + 1 ≤ 1
    omega
  · show 0 + 512 ≤ 512
    omega

/-- Tile `i` of a block's rows, as the kernel loads it. -/
def ldB (X : Vec Ideal S2048x128 .bf16) (i : Fin 4) : Vec Ideal S512x128 .bf16 :=
  View.ld X (Rect.unit (s := S2048x128) ![i.val * 512, 0] S512x128.size (inb_tile i))

/-- Chunk `i` of a block's forget sums, as the kernel loads it. -/
def ldF (X : Vec Ideal S1x1x4x1x512 .f32) (i : Fin 4) : Vec Ideal S1x1x1x1x512 .f32 :=
  View.ld X (Rect.unit (s := S1x1x4x1x512) ![0, 0, i.val, 0, 0] S1x1x1x1x512.size (inb_ftile i))

theorem ldB_at (X : Vec Ideal S2048x128 .bf16) (i : Fin 4) (r : Fin 512) (e : Fin 128) :
    ldB X i (ix2 r e) = X (ix2 (tl i r) e) := by
  unfold ldB
  pointwise
  rfl

theorem ldF_at (X : Vec Ideal S1x1x4x1x512 .f32) (i : Fin 4) (r : Fin 512) :
    ldF X i (ix5 0 0 0 0 r) = X (ix5 0 0 i 0 r) := by
  unfold ldF
  pointwise

/-- A sum over the tiles, of which those after tile `i` give nothing. -/
theorem sum_upto {M : Type} [AddCommMonoid M] (i : Fin 4) (f : Fin 4 → M) (hf : ∀ j, i < j → f j = 0) :
    ∑ j, f j = ∑ j ∈ Finset.range i.val, f (Fin.ofNat 4 j) + f i := by
  have h1 := hf 1
  have h2 := hf 2
  have h3 := hf 3
  clear hf
  rw [Fin.sum_univ_four]
  fin_cases i <;> simp_all [Finset.sum_range_succ] <;> rfl

section Block
variable (Q K V Z : Vec Ideal S2048x128 .bf16) (Fc : Vec Ideal S1x1x4x1x512 .f32)

/-- Row tile `i` takes key tile `j`, before its own, in. -/
def U (i j : Fin 4) (st : St) : St := stepSt (k0_pay49 (ldB Q i) (ldB K j) (ldF Fc j)) (k0_pay38 (ldF Fc i)) (ldB V j) st

/-- Row tile `i` takes its own key tile in. -/
def D (i : Fin 4) (st : St) : St :=
  stepSt (k0_pay57 (k0_pay56 (ldB Q i) (ldB K i)) (ldF Fc i)) (k0_pay38 (ldF Fc i)) (ldB V i) st

/-- Row tile `i` after the first key tiles. -/
def pre (i : Fin 4) : ℕ → St
  | 0 => initSt
  | j + 1 => U Q K V Fc i (Fin.ofNat 4 j) (pre i j)

/-- Row tile `i` after its own key tile. -/
def tile (i : Fin 4) : St := D Q K V Fc i (pre Q K V Fc i i.val)

/-- A sum over the keys, by key tiles. -/
theorem sum_tiles {M : Type*} [AddCommMonoid M] (f : Fin 2048 → M) :
    ∑ C, f C = ∑ j : Fin 4, ∑ c : Fin 512, f (tl j c) := Fin.sum_univ_tiles 4 512 rfl f

variable {q' k' : Fin 2048 → Fin 128 → ℝ} {f' : Fin 2048 → ℝ}
  (hq : ∀ r e, Q (ix2 r e) = ((q' r e : ℝ) : EReal)) (hk : ∀ r e, K (ix2 r e) = ((k' r e : ℝ) : EReal))
  (hf : ∀ i r, Fc (ix5 0 0 i 0 r) = ((f' (tl i r) : ℝ) : EReal))
include hq hk hf

theorem pre_inv (i : Fin 4) : ∀ n, n ≤ i.val → Inv (pre Q K V Fc i n)
    (fun r => ∑ j ∈ Finset.range n, ∑ c, W q' k' f' (tl i r) (tl (Fin.ofNat 4 j) c))
    (fun r d => ∑ j ∈ Finset.range n, ∑ c, ((W q' k' f' (tl i r) (tl (Fin.ofNat 4 j) c) : ℝ) : EReal)
      * V (ix2 (tl (Fin.ofNat 4 j) c) d))
  | 0, _ => by
    simp only [Finset.range_zero, Finset.sum_empty]
    exact Inv.init
  | n + 1, hn => by
    have := (pre_inv i n (by omega)).unmasked (ldB Q i) (ldB K (Fin.ofNat 4 n)) (ldB V (Fin.ofNat 4 n)) (ldF Fc i)
      (ldF Fc (Fin.ofNat 4 n)) (fun r e => (ldB_at _ _ _ _).trans (hq _ _)) (fun r e => (ldB_at _ _ _ _).trans (hk _ _))
      (fun r => (ldF_at _ _ _).trans (hf _ _)) (fun r => (ldF_at _ _ _).trans (hf _ _))
    have e : ∀ r c, W q' k' f' (tl i r) (tl (Fin.ofNat 4 n) c) = Real.exp (lg (q' (tl i r)) (k' (tl (Fin.ofNat 4 n) c))
        (f' (tl i r)) (f' (tl (Fin.ofNat 4 n) c))) := fun r c => by
      refine if_pos (Fin.le_def.2 ?_)
      show (n % 4) * 512 + c.val ≤ i.val * 512 + r.val
      have := i.isLt
      have := c.isLt
      omega
    simp only [ldB_at] at this
    simp only [Finset.sum_range_succ, e]
    exact this

theorem tile_inv (i : Fin 4) : Inv (tile Q K V Fc i)
    (fun r => ∑ C, W q' k' f' (tl i r) C)
    (fun r d => ∑ C, ((W q' k' f' (tl i r) C : ℝ) : EReal) * V (ix2 C d)) := by
  have := (pre_inv Q K V Fc hq hk hf i i.val (le_refl _)).masked (ldB Q i) (ldB K i) (ldB V i) (ldF Fc i)
    (ldF Fc i) (fun r e => (ldB_at _ _ _ _).trans (hq _ _)) (fun r e => (ldB_at _ _ _ _).trans (hk _ _))
    (fun r => (ldF_at _ _ _).trans (hf _ _)) (fun r => (ldF_at _ _ _).trans (hf _ _))
  have e : ∀ r c, (if c ≤ r then Real.exp (lg (q' (tl i r)) (k' (tl i c)) (f' (tl i r)) (f' (tl i c))) else 0)
      = W q' k' f' (tl i r) (tl i c) := fun r c => by
    unfold W
    congr 1
    simp only [Fin.le_def, tl, add_le_add_iff_left]
  have hz : ∀ (j : Fin 4) r c, i < j → W q' k' f' (tl i r) (tl j c) = 0 := fun j r c hj => by
    refine if_neg fun hle => ?_
    have h1 : j.val * 512 + c.val ≤ i.val * 512 + r.val := Fin.le_def.1 hle
    have := Fin.lt_def.1 hj
    omega
  simp only [e, ldB_at] at this
  unfold tile D
  refine Eq.mp ?_ this
  congr 1
  · funext r
    rw [sum_tiles, sum_upto i _ fun j hj => Finset.sum_eq_zero fun c _ => hz j r c hj]
  · funext r d
    rw [sum_tiles, sum_upto i _ fun j hj => Finset.sum_eq_zero fun c _ => by rw [hz j r c hj, EReal.coe_zero, zero_mul]]

omit hq hk hf in
/-- The gate, in the kernel's form and as it is written. -/
theorem exp2_neg (z : EReal) : Ideal.exp2 (z * ((-ln2i : ℝ) : EReal)) = Ideal.exp (-z) := by
  have hl : (0 : ℝ) < ln2i := inv_pos.2 (Real.log_pos (by norm_num))
  have hn : -ln2i < 0 := neg_lt_zero.2 hl
  induction z with
  | bot => rw [EReal.bot_mul_coe_of_neg hn]; simp
  | top => rw [EReal.top_mul_coe_of_neg hn]; simp
  | coe x =>
    rw [← EReal.coe_mul, Ideal.exp2_coe, ← EReal.coe_neg, Ideal.exp_coe]
    exact congrArg _ ((congrArg (Real.rpow 2) (by ring : x * -ln2i = -x * ln2i)).trans (two_rpow (-x)))

/-- What row tile `i` stores. -/
theorem out_at (i : Fin 4) (r : Fin 512) (d : Fin 128) :
    k0_pay37 (tile Q K V Fc i).a (tile Q K V Fc i).l (ldB Z i) (ix2 r d)
      = (∑ C, ((W q' k' f' (tl i r) C : ℝ) : EReal) * V (ix2 C d)) * ((1 / ∑ C, W q' k' f' (tl i r) C : ℝ) : EReal)
        * (Z (ix2 (tl i r) d) * Ideal.div 1 (1 + Ideal.exp (-(Z (ix2 (tl i r) d) : EReal)))) := by
  obtain ⟨m, l, _, hl, hI⟩ := tile_inv Q K V Fc hq hk hf i r
  have hS : 0 < ∑ C, W q' k' f' (tl i r) C := by
    refine Finset.sum_pos' (fun C _ => ?_) ⟨tl i r, Finset.mem_univ _, ?_⟩
    · unfold W
      split
      · exact (Real.exp_pos _).le
      · exact le_refl _
    · unfold W
      rw [if_pos (le_refl _)]
      exact Real.exp_pos _
  pointwise [k0_pay37]
  rw [hl, neg_log2e_eq, ldB_at]
  exact congrArg₂ (· * ·) (hI.quot hS d) (congrArg (fun y => Z (ix2 (tl i r) d) * Ideal.div 1 (1 + y)) (exp2_neg _))

end Block

end Cert.KernelIdeal.Value

end
-- ==== Proof.Conv.lean ====
/- The state-space mixer's convolved projection: the kernel's two result arrays are the reference's. -/
module

public import proofs.«01_k».proof.Proof.ConvFrame
public import proofs.«01_k».proof.Proof.Tile
public import proofs.«01_k».proof.Proof.Gen.Reference9Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel9Ideal.Conv

open Cert.Kernel9Ideal Cert.Kernel9Ideal.Gen

/-- The reference's product, cut to this projection's columns, over the kernel's arguments. -/
abbrev PROJ (h : FVec Ideal Cert.Reference9Ideal.S8192x4096 .bf16) (w : FVec Ideal Cert.Reference9Ideal.S2x4096x18560 .f32) :
    FVec Ideal Cert.Reference9Ideal.S8192x10240 .f32 :=
  extractStridedSlice Cert.Reference9Ideal.S8192x10240 ![0, 8192] (Host.dotGeneral (φ₂ := .f32)
    Cert.Reference9Ideal.dot_S8192x4096_S4096x18560_S8192x18560_1_0_0_1_n_n none (extf .f32 h Cert.Reference9Ideal.Gen.bitsLt_bf16_f32)
    (shapeCast _ (extractStridedSlice Cert.Reference9Ideal.S1x4096x18560 ![0, 0, 0] w
      Cert.Reference9Ideal.Gen.slices_S2x4096x18560_S1x4096x18560_0_0_0) Cert.Reference9Ideal.Gen.shapeCasts_S1x4096x18560_S4096x18560))
    Cert.Reference9Ideal.Gen.slices_S8192x18560_S8192x10240_0_8192

/-- Row `r - s` of an array whose rows are sequences of 2048, zero before a sequence's start. -/
def back (x : FVec Ideal Cert.Reference9Ideal.S8192x10240 .f32) (s : ℕ) (r : Fin 8192) (n : Fin 10240) : EReal :=
  if r.val % 2048 < s then 0 else x (ix2 ⟨r.val - s, by have := r.isLt; omega⟩ n)

/-- The gate. -/
def silu (z : EReal) : EReal := z * Ideal.div 1 (1 + Ideal.exp (-z))

/-- The convolution at a row and column, before the gate. -/
def conv (x : FVec Ideal Cert.Reference9Ideal.S8192x10240 .f32) (w : FVec Ideal Cert.Reference9Ideal.S2x4x10240 .f32)
    (b : FVec Ideal Cert.Reference9Ideal.S2x10240 .f32) (r : Fin 8192) (n : Fin 10240) : EReal :=
  b (ix2 0 n) + (back x 3 r n * w (ix3 0 0 n) + back x 2 r n * w (ix3 0 1 n) + back x 1 r n * w (ix3 0 2 n) + x (ix2 r n) * w (ix3 0 3 n))

section Shift
variable (v : FVec Ideal S1024x1024 .f32) (p : FVec Ideal S8x1024 .f32)

/-- A tile moved down by `s` rows, its first rows out of the eight before it. -/
abbrev shifted (s : BitVec 32) : FVec Ideal S1024x1024 .f32 :=
  concatenate S1024x1024 0 [⟨S8x1024, select (cmpi .slt (iota .tc S8x1024 32 [0] iota_S8x1024_d0_w32) (broadcast S8x1024 s))
      (dynamicRotate 0 s none p rotates_S8x1024_d0)
      (extractStridedSlice S8x1024 ![0, 0] (dynamicRotate 0 s none v rotates_S1024x1024_d0) slices_S1024x1024_o0_0_S8x1024)⟩,
    ⟨S1016x1024, extractStridedSlice S1016x1024 ![8, 0] (dynamicRotate 0 s none v rotates_S1024x1024_d0) slices_S1024x1024_o8_0_S1016x1024⟩]
    concatenates_S8x1024_S1016x1024_S1024x1024_d0

theorem shifted_at (s : ℕ) (h0 : 0 < s) (h8 : s < 8) (r k : Fin 1024) :
    shifted v p (BitVec.ofNat 32 s) (ix2 r k)
      = if h : r.val < s then p (ix2 ⟨8 + r.val - s, by omega⟩ k) else v (ix2 ⟨r.val - s, by have := r.isLt; omega⟩ k) := by
  have hr := r.isLt
  have hs : (BitVec.ofNat 32 s).toNat = s := by rw [BitVec.toNat_ofNat]; omega
  pointwise [shifted]
  by_cases h : r.val < 8
  · rw [dif_pos h, WordCmp.cmpi_slt_ofNat (by omega) (by omega), WordCmp.select_decide]
    by_cases h' : r.val < s
    · rw [if_pos h', dif_pos h']
      exact congrArg (fun q => p (ix2 q k)) (Fin.ext (by show (r.val + 8 - (BitVec.ofNat 32 s).toNat % 8) % 8 = 8 + r.val - s; omega))
    · rw [if_neg h', dif_neg h']
      exact congrArg (fun q => v (ix2 q k)) (Fin.ext (by show (r.val + 1024 - (BitVec.ofNat 32 s).toNat % 1024) % 1024 = r.val - s; omega))
  · rw [dif_neg h, dif_neg (by omega)]
    exact congrArg (fun q => v (ix2 q k)) (Fin.ext (by
      show (8 + (r.val - 8) + 1024 - (BitVec.ofNat 32 s).toNat % 1024) % 1024 = r.val - s; omega))

/-- What the taps are multiplied with and summed to. -/
theorem taps_at (b : FVec Ideal S1024x1024 .f32) (w2 w1 w0 : FVec Ideal S1x1024 .f32) (r k : Fin 1024) :
    k0_pay9 v p (iota .tc S8x1024 32 [0] iota_S8x1024_d0_w32) b w2 w1 w0 (ix2 r k)
      = b (ix2 r k) + shifted v p 1#32 (ix2 r k) * w2 (ix2 0 k) + shifted v p 2#32 (ix2 r k) * w1 (ix2 0 k)
        + shifted v p 3#32 (ix2 r k) * w0 (ix2 0 k) := by
  pointwise [k0_pay9, shifted]

/-- What they are added to. -/
theorem base_at (x0 : Vec Ideal S1024x4096 .bf16) (x1 : Vec Ideal S1x4096x1024 .bf16) (x3 w3 : FVec Ideal S1x1024 .f32) (r k : Fin 1024) :
    k0_pay8 x0 x1 x3 w3 (ix2 r k) = x3 (ix2 0 k) + k0_pay3 x0 x1 (ix2 r k) * w3 (ix2 0 k) := by
  pointwise [k0_pay8]

end Shift

/-- The two results over the arguments: the gated convolution, -/
def ACT (h : FVec Ideal Cert.Reference9Ideal.S8192x4096 .bf16) (w : FVec Ideal Cert.Reference9Ideal.S2x4096x18560 .f32)
    (f : FVec Ideal Cert.Reference9Ideal.S2x4x10240 .f32) (b : FVec Ideal Cert.Reference9Ideal.S2x10240 .f32) :
    FVec Ideal Cert.Reference9Ideal.S8192x10240 .bf16 :=
  fun i => silu (conv (PROJ h w) f b ⟨(i 0).val, (i 0).isLt⟩ ⟨(i 1).val, (i 1).isLt⟩)

/-- and each tile's last eight rows of the product. -/
def TAILS (h : FVec Ideal Cert.Reference9Ideal.S8192x4096 .bf16) (w : FVec Ideal Cert.Reference9Ideal.S2x4096x18560 .f32) :
    FVec Ideal Cert.Reference9Ideal.S8x8x10240 .f32 :=
  fun i => PROJ h w (ix2 ⟨(i 0).val * 1024 + (1016 + (i 1).val), by have h0 : (i 0).val < 8 := (i 0).isLt; have h1 : (i 1).val < 8 := (i 1).isLt; omega⟩ (i 2))

section Kernel
variable (m : (ℓ : Loc nD τ sig) → Buf (Elt Ideal) ℓ) (c : Dev nD)

/-- The product over the call's arguments. -/
abbrev X : FVec Ideal Cert.Reference9Ideal.S8192x10240 .f32 :=
  PROJ (m ((c.tc : Thread nD τ).loc main_arg0)) (m ((c.tc : Thread nD τ).loc main_arg1))

theorem idx : ∀ t : Fin cfg0.N, win0_0.index t = ![t.val / 10, 0] ∧ win0_1.index t = ![0, 0, 8 + t.val % 10]
    ∧ win0_2.index t = ![0, t.val % 10] ∧ win0_3.index t = ![0, t.val % 10] ∧ win0_4.index t = ![t.val / 10, t.val % 10]
    ∧ win0_5.index t = ![t.val / 10, 0, t.val % 10] :=
  (by decide +kernel : ∀ t : Fin grid0.N, _)

/-- The weights as the call finds them: the argument, its format changed. -/
theorem weights : V m c main_v0 = m ((c.tc : Thread nD τ).loc main_arg1) := by
  unfold V
  after_results <;> rfl

/-- The filter as the call finds it: the first layer's. -/
theorem filter : V m c main_v2 = fun j => m ((c.tc : Thread nD τ).loc main_arg2) (ix3 0 (j 0) (j 1)) := by
  unfold V
  after_results
  funext j
  idx_vars j
  pointwise

/-- The bias as the call finds it: the first layer's. -/
theorem bias : V m c main_v5 = fun j => m ((c.tc : Thread nD τ).loc main_arg3) (ix2 0 (j 1)) := by
  unfold V
  after_results
  funext j
  idx_vars j
  pointwise

/-- The filter's block holds the filter of its columns. -/
theorem filter_at (t : Fin cfg0.N) (a : Fin 4) (k : Fin 1024) :
    iblk m c 2 t (ix2 a k) = m ((c.tc : Thread nD τ).loc main_arg2) (ix3 0 a ⟨t.val % 10 * 1024 + k.val, by omega⟩) := by
  refine Eq.trans ?_ (congrFun (filter m c) (ix2 a ⟨t.val % 10 * 1024 + k.val, by omega⟩))
  blk_ext [iblk, idx t]

/-- The bias's block holds the bias of its columns. -/
theorem bias_at (t : Fin cfg0.N) (k : Fin 1024) :
    iblk m c 3 t (ix2 0 k) = m ((c.tc : Thread nD τ).loc main_arg3) (ix2 0 ⟨t.val % 10 * 1024 + k.val, by omega⟩) := by
  refine Eq.trans ?_ (congrFun (bias m c) (ix2 0 ⟨t.val % 10 * 1024 + k.val, by omega⟩))
  blk_ext [iblk, idx t]

/-- A weight block holds the weights of its columns. -/
theorem block (t : Fin cfg0.N) : (X0_1 m c t : Vec Ideal S1x4096x1024 .bf16)
    = fun j => m ((c.tc : Thread nD τ).loc main_arg1) (ix3 0 (j 1) ⟨(8 + t.val % 10) * 1024 + (j 2).val, by have : (j 2).val < 1024 := (j 2).isLt; omega⟩) := by
  funext j
  idx_vars j
  unfold X0_1 Pipeline.Window.fill
  rw [dif_pos (moved0_1 t _), ← weights m c]
  blk_ext [iblk, idx t]

/-- The row and the column of a tile's entry. -/
abbrev row (t : Fin cfg0.N) (r : Fin 1024) : Fin 8192 := ⟨t.val / 10 * 1024 + r.val, by have : t.val < 80 := t.isLt; omega⟩
abbrev col (t : Fin cfg0.N) (k : Fin 1024) : Fin 10240 := ⟨t.val % 10 * 1024 + k.val, by omega⟩

/-- A point's product is its tile of the product. -/
theorem tile_at (t : Fin cfg0.N) (r k : Fin 1024) : k0_pay3 (iblk m c 0 t) (X0_1 m c t) (ix2 r k) = X m c (ix2 (row t r) (col t k)) := by
  pointwise [k0_pay3, X, PROJ]
  rw [block m c t]
  blk_point [iblk, V, idx t]

theorem last_at (t : Fin cfg0.N) (a : Fin 8) (k : Fin 1024) : last m c t (ix2 a k) = X m c (ix2 (row t ⟨1016 + a.val, by omega⟩) (col t k)) := by
  rw [← tile_at]
  pointwise [last, k0_pay4]

/-- A tile moved down is the product moved down. -/
theorem moved_at (t : Fin cfg0.N) (s : ℕ) (h0 : 0 < s) (h8 : s < 8) (r k : Fin 1024) :
    shifted (k0_pay3 (iblk m c 0 t) (X0_1 m c t)) (prev m c t) (BitVec.ofNat 32 s) (ix2 r k) = back (X m c) s (row t r) (col t k) := by
  have ht : t.val < 80 := t.isLt
  have hr := r.isLt
  rw [shifted_at _ _ s h0 h8]
  unfold back prev
  by_cases h : r.val < s
  · rw [dif_pos h]
    by_cases he : t.val / 10 % 2 = 0
    · rw [if_pos he, if_pos (show (t.val / 10 * 1024 + r.val) % 2048 < s by omega)]
      pointwise [k0_pay7, k0_pay6]
    · rw [if_neg he, if_neg (show ¬ (t.val / 10 * 1024 + r.val) % 2048 < s by omega), last_at]
      exact congrArg₂ (fun a b => X m c (ix2 a b)) (Fin.ext (by show (t.val - 10) / 10 * 1024 + (1016 + (8 + r.val - s)) = t.val / 10 * 1024 + r.val - s; omega))
        (Fin.ext (by show (t.val - 10) % 10 * 1024 + k.val = t.val % 10 * 1024 + k.val; omega))
  · rw [dif_neg h, if_neg (show ¬ (t.val / 10 * 1024 + r.val) % 2048 < s by omega), tile_at]
    exact congrArg (fun a => X m c (ix2 a (col t k))) (Fin.ext (by show t.val / 10 * 1024 + (r.val - s) = t.val / 10 * 1024 + r.val - s; omega))

/-- The convolution at a point's tile, in the kernel's order. -/
theorem conv_at (t : Fin cfg0.N) (r k : Fin 1024) :
    k0_pay9 (k0_pay3 (iblk m c 0 t) (X0_1 m c t)) (prev m c t) (iota .tc S8x1024 32 [0] iota_S8x1024_d0_w32)
        (k0_pay8 (iblk m c 0 t) (X0_1 m c t) (iblk m c 3 t) (tap (iblk m c 2 t) 3 inb_S4x1024_S1x1024_3_0))
        (tap (iblk m c 2 t) 2 inb_S4x1024_S1x1024_2_0) (tap (iblk m c 2 t) 1 inb_S4x1024_S1x1024_1_0) (tap (iblk m c 2 t) 0 inb_S4x1024_S1x1024_0_0) (ix2 r k)
      = conv (X m c) (m ((c.tc : Thread nD τ).loc main_arg2)) (m ((c.tc : Thread nD τ).loc main_arg3)) (row t r) (col t k) := by
  have e1 := moved_at m c t 1 (by decide) (by decide) r k
  have e2 := moved_at m c t 2 (by decide) (by decide) r k
  have e3 := moved_at m c t 3 (by decide) (by decide) r k
  rw [taps_at, e1, e2, e3]
  have f3 : tap (iblk m c 2 t) 3 inb_S4x1024_S1x1024_3_0 (ix2 0 k) = iblk m c 2 t (ix2 3 k) := by pointwise [tap]
  have f2 : tap (iblk m c 2 t) 2 inb_S4x1024_S1x1024_2_0 (ix2 0 k) = iblk m c 2 t (ix2 2 k) := by pointwise [tap]
  have f1 : tap (iblk m c 2 t) 1 inb_S4x1024_S1x1024_1_0 (ix2 0 k) = iblk m c 2 t (ix2 1 k) := by pointwise [tap]
  have f0 : tap (iblk m c 2 t) 0 inb_S4x1024_S1x1024_0_0 (ix2 0 k) = iblk m c 2 t (ix2 0 k) := by pointwise [tap]
  rw [base_at, f0, f1, f2, f3, tile_at, bias_at, filter_at, filter_at, filter_at, filter_at]
  unfold conv
  abel

set_option maxHeartbeats 800000 in
/-- The kernel's first result array is the convolution, gated. -/
theorem final4 : (dats m 0 c).arrAt 4 (cfgs 0).N
    = ACT (m ((c.tc : Thread nD τ).loc main_arg0)) (m ((c.tc : Thread nD τ).loc main_arg1)) (m ((c.tc : Thread nD τ).loc main_arg2)) (m ((c.tc : Thread nD τ).loc main_arg3)) := by
  unfold ACT
  refine (dats m 0 c).arrAt_eq_of_covers 4 _ (by decide +kernel) fun t hf' y => ?_
  blk_simp
  rw [after0_4]
  idx_vars y
  have e := conv_at m c t y0 y1
  pointwise [out4, act, k0_pay1, k0_pay10, k0_pay11]
  rw [e, show (Named.named κ "neg_log2e" 3216550459#32 : Ideal .f32) = ((-Cert.KernelIdeal.Value.ln2i : ℝ) : EReal) from rfl]
  refine (congrArg (fun z => _ * Ideal.div 1 (1 + z)) (Cert.KernelIdeal.Value.exp2_neg _)).trans ?_
  refine Eq.trans (b := silu (conv (X m c) (m ((c.tc : Thread nD τ).loc main_arg2)) (m ((c.tc : Thread nD τ).loc main_arg3)) (row t y0) (col t y1))) rfl ?_
  have e5 := (idx t).2.2.2.2.1
  refine congrArg silu (congrArg₂ (conv _ _ _) (Fin.ext ?_) (Fin.ext ?_))
  · show t.val / 10 * 1024 + y0.val = win0_4.index t 0 * 1024 + y0.val
    rw [e5]; rfl
  · show t.val % 10 * 1024 + y1.val = win0_4.index t 1 * 1024 + y1.val
    rw [e5]; rfl

/-- The kernel's second result array: each tile's last eight rows. -/
theorem final5 : (dats m 0 c).arrAt 5 (cfgs 0).N
    = TAILS (m ((c.tc : Thread nD τ).loc main_arg0)) (m ((c.tc : Thread nD τ).loc main_arg1)) := by
  unfold TAILS
  refine (dats m 0 c).arrAt_eq_of_covers 5 _ (by decide +kernel) fun t hf' y => ?_
  blk_simp
  rw [after0_5]
  idx_vars y
  refine Eq.trans (b := last m c t (ix2 y1 y2)) (by pointwise [out5, k0_pay5, last]) ((last_at m c t y1 y2).trans ?_)
  blk_ext! [idx t]

/-- Every run of the kernel ends with these two results, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v6_0) = ACT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6_1) = TAILS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final4 m c), ((h c).1 5).trans (final5 m c), unchanged m r h c⟩) (run_main m ρ)

end Kernel

section Reference
/-- A shifted row of the padded sequences is a row of the product moved down. -/
theorem back_eq {x : FVec Ideal Cert.Reference9Ideal.S8192x10240 .f32} {s : ℕ} {r : Fin 8192} {n : Fin 10240} {P : Prop} [Decidable P]
    (hP : P ↔ r.val % 2048 < s) {E : ¬ P → EReal} (q : ¬ P → Fin 8192) (hq : ∀ h, (q h).val = r.val - s) (hE : ∀ h, E h = x (ix2 (q h) n)) :
    (if h : P then 0 else E h) = back x s r n := by
  unfold back
  by_cases h : P
  · rw [dif_pos h, if_pos (hP.1 h)]
  · rw [dif_neg h, if_neg (fun h' => h (hP.2 h')), hE h]
    exact congrArg (fun a => x (ix2 a n)) (Fin.ext (hq h))

variable (m : (ℓ : Loc Cert.Reference9Ideal.nD Cert.Reference9Ideal.τ Cert.Reference9Ideal.sig) → Buf (Elt Ideal) ℓ) (c : Dev Cert.Reference9Ideal.nD)

/-- The reference's first result at a row and column. -/
theorem ref_at (r : Fin 8192) (n : Fin 10240) : Cert.Reference9Ideal.Value.res_out0 m c (ix2 r n)
    = silu (conv (PROJ (m ((c.tc : Thread Cert.Reference9Ideal.nD Cert.Reference9Ideal.τ).loc Cert.Reference9Ideal.main_arg0))
        (m ((c.tc : Thread Cert.Reference9Ideal.nD Cert.Reference9Ideal.τ).loc Cert.Reference9Ideal.main_arg1)))
      (m ((c.tc : Thread Cert.Reference9Ideal.nD Cert.Reference9Ideal.τ).loc Cert.Reference9Ideal.main_arg2))
      (m ((c.tc : Thread Cert.Reference9Ideal.nD Cert.Reference9Ideal.τ).loc Cert.Reference9Ideal.main_arg3)) r n) := by
  unfold Cert.Reference9Ideal.Value.res_out0 Cert.Reference9Ideal.Value.res_main_v46
  pointwise
  unfold conv
  refine congrArg silu (congrArg₂ (fun a b : EReal => a + b) rfl (congrArg₂ (fun a b : EReal => a + b) (congrArg₂ (fun a b : EReal => a + b)
    (congrArg₂ (fun a b : EReal => a + b) (congrArg (fun a : EReal => a * _) ?_) (congrArg (fun a : EReal => a * _) ?_))
    (congrArg (fun a : EReal => a * _) ?_)) (congrArg (fun a : EReal => a * _) ?_)))
  · exact back_eq (by omega) (fun h => ⟨r.val / 2048 * 2048 + (r.val % 2048 - 3), by omega⟩) (fun h => by show r.val / 2048 * 2048 + (r.val % 2048 - 3) = _; omega)
      (fun h => by pointwise [PROJ])
  · exact back_eq (by omega) (fun h => ⟨r.val / 2048 * 2048 + (1 + r.val % 2048 - 3), by omega⟩) (fun h => by show r.val / 2048 * 2048 + (1 + r.val % 2048 - 3) = _; omega)
      (fun h => by pointwise [PROJ])
  · exact back_eq (by omega) (fun h => ⟨r.val / 2048 * 2048 + (2 + r.val % 2048 - 3), by omega⟩) (fun h => by show r.val / 2048 * 2048 + (2 + r.val % 2048 - 3) = _; omega)
      (fun h => by pointwise [PROJ])
  · pointwise [PROJ]

/-- Every run of the reference ends with these two results, its arguments unchanged. -/
theorem ref_run (ρ : Dev Cert.Reference9Ideal.nD → PrngReg) :
    θ_run Cert.Reference9Ideal.defs (onTc (τ := Cert.Reference9Ideal.τ) (Cert.Reference9Ideal.main (F := Ideal))) ⟨m, fun _ => 0, ρ⟩ fun r => ∀ c : Dev Cert.Reference9Ideal.nD,
      r.2.mem ((c.tc : Thread Cert.Reference9Ideal.nD Cert.Reference9Ideal.τ).loc Cert.Reference9Ideal.main_v46) = ACT (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_v48) = TAILS (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))
      ∧ r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3) :=
  (θ_run Cert.Reference9Ideal.defs _ _).mono (fun r h c => ⟨(h c).1.trans (by
      funext i
      idx_vars i
      exact ref_at m c i0 i1), (h c).2.1.trans (by
      funext i
      idx_vars i
      pointwise [TAILS, PROJ]), (h c).2.2⟩)
    (Cert.Reference9Ideal.Value.run (F := Ideal) m ρ)

end Reference

end Cert.Kernel9Ideal.Conv

end
-- ==== Proof.RefAt.lean ====
/- The reference's attention, read at a row and a column: the formula of Online.lean. -/
module

public import proofs.«01_k».proof.Proof.Gen.ReferenceIdeal
public import proofs.«01_k».proof.Proof.Online
public import Idealize.ShloMosaic.Lib.WordCmp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Online

/-- A row of columns by sequence, position, head and column of the head. -/
def H4 (x : FVec Ideal S8192x4096 .bf16) : FVec Ideal S4x2048x32x128 .f32 :=
  shapeCast S4x2048x32x128 (extf .f32 x bitsLt_bf16_f32) shapeCasts_S8192x4096_S4x2048x32x128

/-- The masked logits. -/
def SC (q k : FVec Ideal S8192x4096 .bf16) (f : FVec Ideal S4x2048x32 .f32) : FVec Ideal S4x32x2048x2048 .f32 :=
  select (broadcastInDim S4x32x2048x2048 ![0, 1, 2, 3] bcast_S1x1x2048x2048_S4x32x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))))
    (subf (addf (mulf (Host.dotGeneral dot_S4x2048x32x128_S4x2048x32x128_S4x32x2048x2048_3_3_1_1_02_02 none (H4 q) (H4 k)) (broadcastInDim S4x32x2048x2048 ![] bcast_S_S4x32x2048x2048 (constant S_ .f32 0x3DB504F3#32))) (broadcastInDim S4x32x2048x2048 ![0, 1, 2, 3] bcast_S4x32x2048x1_S4x32x2048x2048_0_1_2_3 (broadcastInDim S4x32x2048x1 ![0, 1, 2] bcast_S4x32x2048_S4x32x2048x1_0_1_2 (transpose S4x32x2048 [0, 2, 1] f transposes_S4x2048x32_S4x32x2048_0_2_1)))) (broadcastInDim S4x32x2048x2048 ![0, 1, 2, 3] bcast_S4x32x1x2048_S4x32x2048x2048_0_1_2_3 (broadcastInDim S4x32x1x2048 ![0, 1, 3] bcast_S4x32x2048_S4x32x1x2048_0_1_3 (transpose S4x32x2048 [0, 2, 1] f transposes_S4x2048x32_S4x32x2048_0_2_1))))
    (broadcastInDim S4x32x2048x2048 ![] bcast_S_S4x32x2048x2048 (id (constant S_ .f32 0xFF800000#32)))

/-- Each row's greatest entry. -/
def RM (s : FVec Ideal S4x32x2048x2048 .f32) : FVec Ideal S4x32x2048 .f32 :=
  Host.reduce FloatOps.maximumf s (constant S_ .f32 0xFF800000#32) reducesTo_S4x32x2048x2048_S4x32x2048_d3 h_S_

/-- Each row's maximum. -/
def MX (s : FVec Ideal S4x32x2048x2048 .f32) : FVec Ideal S4x32x2048 .f32 :=
  maximumf (broadcastInDim S4x32x2048 ![] bcast_S_S4x32x2048 (constant S_ .f32 0xFF800000#32)) (RM s)

/-- The exponentials of the logits less their row's maximum. -/
def EX (s : FVec Ideal S4x32x2048x2048 .f32) : FVec Ideal S4x32x2048x2048 .f32 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 (MX s))))

/-- The probabilities: the exponentials divided by their row's sum. -/
def PR (x : FVec Ideal S4x32x2048x2048 .f32) : FVec Ideal S4x32x2048x2048 .f32 :=
  Host.divf x (broadcastInDim S4x32x2048x2048 ![0, 1, 2, 3] bcast_S4x32x2048x1_S4x32x2048x2048_0_1_2_3 (broadcastInDim S4x32x2048x1 ![0, 1, 2] bcast_S4x32x2048_S4x32x2048x1_0_1_2 (Host.reduceAdd x (constant S_ .f32 0x00000000#32) reducesTo_S4x32x2048x2048_S4x32x2048_d3 h_S_)))

/-- The values summed with the probabilities. -/
def AV (v : FVec Ideal S8192x4096 .bf16) (p : FVec Ideal S4x32x2048x2048 .f32) : FVec Ideal S4x2048x32x128 .f32 :=
  transpose S4x2048x32x128 [0, 3, 1, 2] (Host.dotGeneral dot_S4x2048x32x128_S4x32x2048x2048_S4x32x128x2048_1_3_3_2_02_01 none (H4 v) p) transposes_S4x32x128x2048_S4x2048x32x128_0_3_1_2

/-- The reference's result as a term of its arguments. -/
def REF (q k v z : FVec Ideal S8192x4096 .bf16) (f : FVec Ideal S4x2048x32 .f32) : FVec Ideal S8192x4096 .bf16 :=
  truncf .bf16 (mulf (shapeCast S8192x4096 (AV v (PR (EX (SC q k f)))) shapeCasts_S4x2048x32x128_S8192x4096) (mulf (extf .f32 z bitsLt_bf16_f32) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extf .f32 z bitsLt_bf16_f32))))))) bitsLt_bf16_f32

section At
variable (b : Fin 4) (h : Fin 32) (R C : Fin 2048) (e : Fin 128)

theorem h4_at (x : FVec Ideal S8192x4096 .bf16) : H4 x (ix4 b R h e) = x (ix2 (row b R) (col h e)) := by
  pointwise [H4]
  rfl

theorem ninf : Ideal.ofBits .f32 0xFF800000#32 = ⊥ := by simp [Ideal.ofBits, Ideal.ieee]

theorem scale : Ideal.ofBits .f32 0x3DB504F3#32 = ((sq : ℝ) : EReal) := by
  simp [Ideal.ofBits, Ideal.ieee, Cert.Online.sq]
  norm_num

/-- A select on a comparison of two small words. -/
theorem select_sle {n : ℕ} (hn : n ≤ 2048) (a b : Fin n) (x y : EReal) :
    Scalar.select (IntOp.cmpi CmpIPredicate.sle (BitVec.ofNat 32 a.val) (BitVec.ofNat 32 b.val)) x y
      = if a ≤ b then x else y := by
  have ha := a.isLt
  have hb := b.isLt
  rw [WordCmp.cmpi_sle_ofNat (by omega) (by omega), WordCmp.select_decide]
  rfl

theorem sc_at (q k : FVec Ideal S8192x4096 .bf16) (f : FVec Ideal S4x2048x32 .f32) :
    SC q k f (ix4 b h R C) = if C ≤ R then
      (∑ e : Fin 128, q (ix2 (row b R) (col h e)) * k (ix2 (row b C) (col h e))) * ((sq : ℝ) : EReal)
        + f (ix3 b R h) - f (ix3 b C h) else ⊥ := by
  pointwise [SC]
  simp only [h4_at]
  rw [scale]
  refine Eq.trans ?_ (select_sle (by norm_num) C R _ _)
  exact congrArg _ ninf

theorem rm_at (s : FVec Ideal S4x32x2048x2048 .f32) : RM s (ix3 b h R)
    = Finset.univ.fold max ⊥ (fun D : Fin 2048 => s (ix4 b h R D)) := by
  have e : RM s (ix3 b h R)
      = Finset.univ.fold max (Ideal.ofBits .f32 0xFF800000#32) (fun D : Fin 2048 => s (ix4 b h R D)) := by
    pointwise [RM]
  exact e.trans (congrArg (fun y => Finset.univ.fold max y (fun D : Fin 2048 => s (ix4 b h R D))) ninf)

/-- A maximum with minus infinity everywhere. -/
theorem max_bot (y x : FVec Ideal S4x32x2048 .f32) (hy : ∀ i, y i = ⊥) (i : S4x32x2048.Idx) : maximumf y x i = x i := by
  pointwise
  rw [hy]
  exact max_eq_right bot_le

theorem ninf_at (i : S4x32x2048.Idx) :
    broadcastInDim S4x32x2048 ![] bcast_S_S4x32x2048 (constant (F := Ideal) S_ .f32 0xFF800000#32) i = ⊥ := by
  pointwise
  exact ninf

theorem mx_eq (s : FVec Ideal S4x32x2048x2048 .f32) : MX s (ix3 b h R) = RM s (ix3 b h R) :=
  max_bot _ _ ninf_at _

theorem mx_at (s : FVec Ideal S4x32x2048x2048 .f32) : MX s (ix3 b h R)
    = Finset.univ.fold max ⊥ (fun D : Fin 2048 => s (ix4 b h R D)) :=
  (mx_eq b h R s).trans (rm_at b h R s)

theorem ex_at (s : FVec Ideal S4x32x2048x2048 .f32) : EX s (ix4 b h R C)
    = Ideal.exp (s (ix4 b h R C) - Finset.univ.fold max ⊥ (fun D : Fin 2048 => s (ix4 b h R D))) := by
  pointwise [EX]
  rw [mx_at]

theorem pr_at (x : FVec Ideal S4x32x2048x2048 .f32) : PR x (ix4 b h R C)
    = Ideal.div (x (ix4 b h R C)) (∑ D : Fin 2048, x (ix4 b h R D)) := by
  pointwise [PR]

theorem av_at (v : FVec Ideal S8192x4096 .bf16) (p : FVec Ideal S4x32x2048x2048 .f32) : AV v p (ix4 b R h e)
    = ∑ C : Fin 2048, v (ix2 (row b C) (col h e)) * p (ix4 b h R C) := by
  pointwise [AV]
  simp only [h4_at]

theorem ref_at' (q k v z : FVec Ideal S8192x4096 .bf16) (f : FVec Ideal S4x2048x32 .f32) :
    REF q k v z f (ix2 (row b R) (col h e)) = AV v (PR (EX (SC q k f))) (ix4 b R h e) *
      (z (ix2 (row b R) (col h e)) * Ideal.div 1 (1 + Ideal.exp (-z (ix2 (row b R) (col h e))))) := by
  pointwise [REF]
  refine congrArg (fun y => y * _) (congrArg _ ?_)
  have hb := b.isLt
  have hh := h.isLt
  have hR := R.isLt
  have he := e.isLt
  exact (ix4_inj ..).2 ⟨Fin.ext (by show (b.val * 2048 + R.val) / 2048 = b.val; omega),
    Fin.ext (by show (b.val * 2048 + R.val) % 2048 = R.val; omega),
    Fin.ext (by show (h.val * 128 + e.val) / 128 = h.val; omega),
    Fin.ext (by show (h.val * 128 + e.val) % 128 = e.val; omega)⟩

/-- The reference's entry, when queries, keys and forget sums are real. -/
theorem ref_att (q k v z : FVec Ideal S8192x4096 .bf16) (f : FVec Ideal S4x2048x32 .f32)
    (q' k' : Fin 8192 → Fin 4096 → ℝ) (f' : Fin 4 → Fin 2048 → Fin 32 → ℝ)
    (hq : ∀ r e, q (ix2 r e) = (q' r e : EReal)) (hk : ∀ r e, k (ix2 r e) = (k' r e : EReal))
    (hf : ∀ b r h, f (ix3 b r h) = (f' b r h : EReal)) :
    REF q k v z f (ix2 (row b R) (col h e))
      = ATT q' k' f' (fun r c => v (ix2 r c)) (fun r c => z (ix2 r c)) b h R e := by
  have hs : ∀ C, SC q k f (ix4 b h R C) = er (if C ≤ R then some (lg (fun e => q' (row b R) (col h e))
      (fun e => k' (row b C) (col h e)) (f' b R h) (f' b C h)) else none) := fun C => by
    rw [sc_at]
    simp only [hq, hk, hf]
    split
    · simp only [← EReal.coe_mul]
      rw [← coe_sum, ← EReal.coe_mul, ← EReal.coe_add, ← EReal.coe_sub]
      rfl
    · rfl
  rw [ref_at', av_at]
  unfold ATT
  refine congrArg (fun y => y * _) ?_
  simp only [pr_at, ex_at, hs]
  refine Eq.trans (Finset.sum_congr rfl fun C _ => mul_comm _ _) ?_
  refine softmax_sum _ (WA q' k' f' b h R) (fun C => ?_) ⟨R, _, if_pos (le_refl _)⟩ _
  unfold WA W
  split <;> rfl

end At

end Cert.ReferenceIdeal.Value

end
-- ==== Proof.Pre.lean ====
/- The precondition, read back: where it holds, the queries, the keys and the forget sums are real numbers. -/
module

public import proofs.«01_k».proof.Proof.Gen.Pre_logits_finite
public import proofs.«01_k».proof.Proof.Online
public import Idealize.ShloMosaic.Lib.ReduceAll

@[expose] public section

set_option maxRecDepth 16384

noncomputable section

open Idealize.ShloMosaic Idealize.ShloMosaic.TcCoe Idealize.SL.Sem

namespace Cert.Pre

open Cert.Pre_logits_finite Cert.Pre_logits_finite.Gen

theorem pinf : Ideal.ofBits .f32 0x7F800000#32 = ⊤ := by simp [Ideal.ofBits, Ideal.ieee]

/-- A number whose absolute value is below infinity is real. -/
theorem real_of_abs_lt {x y : EReal} (hy : y = ⊤) (h : Ideal.cmp CmpFPredicate.olt (max x (-x)) y = 1#1) :
    x = ((x.toReal : ℝ) : EReal) := by
  subst hy
  refine (EReal.coe_toReal ?_ ?_).symm
  · rintro rfl
    simp [Ideal.cmp] at h
  · rintro rfl
    simp [Ideal.cmp] at h

/-- Every entry of an array whose absolute values are all below infinity is real. -/
theorem all_real {s : Shape} {axes : List (Fin s.rank)} (x : FVec Ideal s .f32) (y : FVec Ideal s .f32)
    (hy : ∀ i, y i = ⊤) (init : S_.Idx → BitVec 1) (h : s.ReducesTo axes S_) (hu : 0 < S_.numel)
    (e : Host.reduce IntOp.andi (cmpf .olt (Host.absf x) y) init h hu ix0 = 1#1) (i : s.Idx) :
    x i = (((x i : EReal).toReal : ℝ) : EReal) := by
  have : Subsingleton S_.Idx := ⟨fun a b => funext fun k => k.elim0⟩
  exact real_of_abs_lt (hy i) (Host.reduce_andi_all _ init h hu ix0 e i)

theorem inf_at {s : Shape} (h : S_.BroadcastsInDim s (![] : Fin 0 → Fin s.rank)) (i : s.Idx) :
    broadcastInDim s ![] h (constant (F := Ideal) S_ .f32 0x7F800000#32) i = ⊤ :=
  pinf

/-- What the precondition says of the queries, the keys and the forget sums. -/
theorem real (q k v z : FVec Ideal S8192x4096 .bf16) (f : FVec Ideal S4x2048x32 .f32)
    (hp : fn q k v z f = fun _ => 1#1) :
    (∀ i, q i = (((q i : EReal).toReal : ℝ) : EReal)) ∧ (∀ i, k i = (((k i : EReal).toReal : ℝ) : EReal))
      ∧ ∀ i, f i = (((f i : EReal).toReal : ℝ) : EReal) := by
  obtain ⟨h1, h3⟩ := IntOp.andi_eq_one.1 (congrFun hp ix0)
  obtain ⟨h1, h2⟩ := IntOp.andi_eq_one.1 h1
  exact ⟨all_real (extf .f32 q _) _ (inf_at _) _ _ _ h1, all_real (extf .f32 k _) _ (inf_at _) _ _ _ h2,
    all_real f _ (inf_at _) _ _ _ h3⟩

end Cert.Pre

end
-- ==== Proof.Final.lean ====
/- The kernel's result array: the attention's formula at every row and column. -/
module

public import proofs.«01_k».proof.Proof.Tile
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Value

open Cert.KernelIdeal Cert.KernelIdeal.Gen Cert.Online

variable (m : (ℓ : Loc nD τ sig) → Buf (Elt Ideal) ℓ) (c : Dev nD)

theorem idx : ∀ t : Fin cfg0.N, win0_0.index t = ![t.val / 32, t.val % 32] ∧ win0_1.index t = ![t.val / 32, t.val % 32]
    ∧ win0_2.index t = ![t.val / 32, t.val % 32] ∧ win0_3.index t = ![t.val / 32, t.val % 32]
    ∧ win0_4.index t = ![t.val / 32, t.val % 32, 0, 0, 0] ∧ win0_5.index t = ![t.val / 32, t.val % 32] :=
  (by decide +kernel : ∀ t : Fin grid0.N, _)

/-- The sequence of a grid point. -/
def gb (t : Fin cfg0.N) : Fin 4 := ⟨t.val / 32, by have : t.val < 128 := lt_of_lt_of_eq t.isLt Gen.N_0; omega⟩

/-- The head of a grid point. -/
def gh (t : Fin cfg0.N) : Fin 32 := ⟨t.val % 32, by omega⟩

theorem q_at (t : Fin cfg0.N) (r : Fin 2048) (e : Fin 128) :
    iblk m c 0 t (ix2 r e) = m ((c.tc : Thread nD τ).loc main_arg0) (ix2 (row (gb t) r) (col (gh t) e)) := by
  blk_ext [iblk, V, idx t] <;> rfl

theorem k_at (t : Fin cfg0.N) (r : Fin 2048) (e : Fin 128) :
    iblk m c 1 t (ix2 r e) = m ((c.tc : Thread nD τ).loc main_arg1) (ix2 (row (gb t) r) (col (gh t) e)) := by
  blk_ext [iblk, V, idx t] <;> rfl

theorem v_at (t : Fin cfg0.N) (r : Fin 2048) (e : Fin 128) :
    iblk m c 2 t (ix2 r e) = m ((c.tc : Thread nD τ).loc main_arg2) (ix2 (row (gb t) r) (col (gh t) e)) := by
  blk_ext [iblk, V, idx t] <;> rfl

theorem z_at (t : Fin cfg0.N) (r : Fin 2048) (e : Fin 128) :
    iblk m c 3 t (ix2 r e) = m ((c.tc : Thread nD τ).loc main_arg3) (ix2 (row (gb t) r) (col (gh t) e)) := by
  blk_ext [iblk, V, idx t] <;> rfl

theorem f_at (t : Fin cfg0.N) (i : Fin 4) (r : Fin 512) :
    iblk m c 4 t (ix5 0 0 i 0 r) = m ((c.tc : Thread nD τ).loc main_arg4) (ix3 (gb t) (tl i r) (gh t)) := by
  blk_ext! [iblk, V, idx t] <;> rfl

/-- The formula, by row and column of the whole result. -/
def GOAL (q' k' : Fin 8192 → Fin 4096 → ℝ) (f' : Fin 4 → Fin 2048 → Fin 32 → ℝ) (v z : Fin 8192 → Fin 4096 → EReal) :
    FVec Ideal S8192x4096 .bf16 :=
  fun i => ATT q' k' f' v z ⟨(i 0).val / 2048, by have : (i 0).val < 8192 := (i 0).isLt; omega⟩ ⟨(i 1).val / 128, by have : (i 1).val < 4096 := (i 1).isLt; omega⟩
    ⟨(i 0).val % 2048, by omega⟩ ⟨(i 1).val % 128, by omega⟩

theorem goal_at (q' k' : Fin 8192 → Fin 4096 → ℝ) (f' : Fin 4 → Fin 2048 → Fin 32 → ℝ) (v z : Fin 8192 → Fin 4096 → EReal)
    (b : Fin 4) (h : Fin 32) (R : Fin 2048) (e : Fin 128) (i : S8192x4096.Idx) (h0 : (i 0).val = b.val * 2048 + R.val)
    (h1 : (i 1).val = h.val * 128 + e.val) : GOAL q' k' f' v z i = ATT q' k' f' v z b h R e := by
  have eq : ∀ {b b' : Fin 4} {h h' : Fin 32} {R R' : Fin 2048} {e e' : Fin 128}, b = b' → h = h' → R = R' → e = e' →
      ATT q' k' f' v z b h R e = ATT q' k' f' v z b' h' R' e' := by
    rintro _ _ _ _ _ _ _ _ rfl rfl rfl rfl
    rfl
  have hR := R.isLt
  have he := e.isLt
  exact eq (Fin.ext (by show (i 0).val / 2048 = b.val; omega)) (Fin.ext (by show (i 1).val / 128 = h.val; omega))
    (Fin.ext (by show (i 0).val % 2048 = R.val; omega)) (Fin.ext (by show (i 1).val % 128 = e.val; omega))

section Real
variable (q' k' : Fin 8192 → Fin 4096 → ℝ) (f' : Fin 4 → Fin 2048 → Fin 32 → ℝ)
  (hq : ∀ r e, m ((c.tc : Thread nD τ).loc main_arg0) (ix2 r e) = (q' r e : EReal))
  (hk : ∀ r e, m ((c.tc : Thread nD τ).loc main_arg1) (ix2 r e) = (k' r e : EReal))
  (hf : ∀ b r h, m ((c.tc : Thread nD τ).loc main_arg4) (ix3 b r h) = (f' b r h : EReal))
include hq hk hf

/-- What row tile `i` of a grid point stores. -/
theorem piece (t : Fin cfg0.N) (i : Fin 4) (r : Fin 512) (d : Fin 128) :
    k0_pay37 (tile (iblk m c 0 t) (iblk m c 1 t) (iblk m c 2 t) (iblk m c 4 t) i).a
        (tile (iblk m c 0 t) (iblk m c 1 t) (iblk m c 2 t) (iblk m c 4 t) i).l (ldB (iblk m c 3 t) i) (ix2 r d)
      = ATT q' k' f' (fun r c' => m ((c.tc : Thread nD τ).loc main_arg2) (ix2 r c'))
        (fun r c' => m ((c.tc : Thread nD τ).loc main_arg3) (ix2 r c')) (gb t) (gh t) (tl i r) d := by
  rw [out_at (iblk m c 0 t) (iblk m c 1 t) (iblk m c 2 t) (iblk m c 3 t) (iblk m c 4 t)
    (q' := fun r e => q' (row (gb t) r) (col (gh t) e)) (k' := fun r e => k' (row (gb t) r) (col (gh t) e))
    (f' := fun r => f' (gb t) r (gh t)) (fun r e => (q_at m c t r e).trans (hq _ _)) (fun r e => (k_at m c t r e).trans (hk _ _))
    (fun i r => (f_at m c t i r).trans (hf _ _ _))]
  simp only [v_at, z_at]
  rfl

/-- … at the row and the column of the whole result. -/
theorem piece_at (t : Fin cfg0.N) (i : Fin 4) (y : S512x128.Idx) (x : S2048x128.Idx) (h0 : (x 0).val = i.val * 512 + (y 0).val)
    (h1 : (x 1).val = (y 1).val) :
    k0_pay37 (tile (iblk m c 0 t) (iblk m c 1 t) (iblk m c 2 t) (iblk m c 4 t) i).a
        (tile (iblk m c 0 t) (iblk m c 1 t) (iblk m c 2 t) (iblk m c 4 t) i).l (ldB (iblk m c 3 t) i) y
      = GOAL q' k' f' (fun r c' => m ((c.tc : Thread nD τ).loc main_arg2) (ix2 r c'))
        (fun r c' => m ((c.tc : Thread nD τ).loc main_arg3) (ix2 r c')) (((View.whole main_v2).slice (win0_5.rect t)).emb x) := by
  idx_vars y
  refine (piece m c q' k' f' hq hk hf t i _ _).trans (goal_at _ _ _ _ _ _ _ _ _ _ ?_ ?_).symm
  · blk_simp [idx t]
    rw [h0]
    rfl
  · blk_simp [idx t]
    rw [h1]
    rfl

/-- The kernel's result array. -/
theorem final : (dats m 0 c).arrAt 5 (cfgs 0).N
    = GOAL q' k' f' (fun r c' => m ((c.tc : Thread nD τ).loc main_arg2) (ix2 r c'))
        (fun r c' => m ((c.tc : Thread nD τ).loc main_arg3) (ix2 r c')) := by
  refine (dats m 0 c).arrAt_eq_of_covers 5 _ (by decide +kernel) fun t hf' y => ?_
  blk_simp
  rw [after0_5]
  unfold outsAt0
  frame_out
  canon_tiles y h
  case piece3 => exact Eq.trans rfl (piece_at m c q' k' f' hq hk hf t 0 y _ (h0.trans (Nat.zero_add _).symm) h1)
  case piece2 => exact Eq.trans rfl (piece_at m c q' k' f' hq hk hf t 1 y _ h0 h1)
  case piece1 => exact Eq.trans rfl (piece_at m c q' k' f' hq hk hf t 2 y _ h0 h1)
  case piece0 => exact Eq.trans rfl (piece_at m c q' k' f' hq hk hf t 3 y _ h0 h1)

end Real

end Cert.KernelIdeal.Value

end
-- ==== Proof.SsdZ.lean ====
/- The SSD mixer's gate projection: the kernel's result array is the reference's product, cut to its columns. -/
module

public import proofs.«01_k».proof.Proof.Gen.Kernel2Ideal.Value
public import proofs.«01_k».proof.Proof.Gen.Reference2Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel2Ideal.Value

open Cert.Kernel2Ideal Cert.Kernel2Ideal.Gen
variable (m : (ℓ : Loc nD τ sig) → Buf (Elt Ideal) ℓ) (c : Dev nD)

/-- The reference's term over the kernel's arguments. -/
abbrev REF (h : FVec Ideal Cert.Reference2Ideal.S8192x4096 .bf16) (w : FVec Ideal Cert.Reference2Ideal.S2x4096x18560 .f32) :
    FVec Ideal Cert.Reference2Ideal.S8192x8192 .bf16 :=
  truncf .bf16 (extractStridedSlice Cert.Reference2Ideal.S8192x8192 ![0, 0] (Host.dotGeneral (φ₂ := .f32)
    Cert.Reference2Ideal.dot_S8192x4096_S4096x18560_S8192x18560_1_0_0_1_n_n none (extf .f32 h Cert.Reference2Ideal.Gen.bitsLt_bf16_f32)
    (shapeCast _ (extractStridedSlice Cert.Reference2Ideal.S1x4096x18560 ![0, 0, 0] w
      Cert.Reference2Ideal.Gen.slices_S2x4096x18560_S1x4096x18560_0_0_0) Cert.Reference2Ideal.Gen.shapeCasts_S1x4096x18560_S4096x18560))
    Cert.Reference2Ideal.Gen.slices_S8192x18560_S8192x8192_0_0) Cert.Reference2Ideal.Gen.bitsLt_bf16_f32

theorem idx : ∀ t : Fin cfg0.N, win0_0.index t = ![t.val / 8, 0] ∧ win0_1.index t = ![0, 0, t.val % 8]
    ∧ win0_2.index t = ![t.val / 8, t.val % 8] := (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨t.val % 8 * 1024 + (j 2).val, by have : (j 2).val < 1024 := (j 2).isLt; omega⟩) := by
  funext j
  idx_vars j
  unfold X0_1 Pipeline.Window.fill
  rw [dif_pos (moved0_1 t _), ← weights m c]
  blk_ext [iblk, idx t]

/-- The kernel's result array. -/
theorem final : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf' y => ?_
  blk_simp
  rw [after0_2]
  unfold outsAt0
  frame_out
  pointwise [k0_pay1, REF]
  rw [block m c t]
  blk_point [iblk, V, idx t]

end Cert.Kernel2Ideal.Value

end
-- ==== Proof.FoxQ.lean ====
/- The attention's query projection: the kernel's result array is the reference's product, cut to its columns. -/
module

public import proofs.«01_k».proof.Proof.Gen.Kernel3Ideal.Value
public import proofs.«01_k».proof.Proof.Gen.Reference3Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel3Ideal.Value

open Cert.Kernel3Ideal Cert.Kernel3Ideal.Gen
variable (m : (ℓ : Loc nD τ sig) → Buf (Elt Ideal) ℓ) (c : Dev nD)

/-- The reference's term over the kernel's arguments. -/
abbrev REF (h : FVec Ideal Cert.Reference3Ideal.S8192x4096 .bf16) (w : FVec Ideal Cert.Reference3Ideal.S2x4096x16416 .f32) :
    FVec Ideal Cert.Reference3Ideal.S8192x4096 .bf16 :=
  truncf .bf16 (extractStridedSlice Cert.Reference3Ideal.S8192x4096 ![0, 0] (Host.dotGeneral (φ₂ := .f32)
    Cert.Reference3Ideal.dot_S8192x4096_S4096x16416_S8192x16416_1_0_0_1_n_n none (extf .f32 h Cert.Reference3Ideal.Gen.bitsLt_bf16_f32)
    (shapeCast _ (extractStridedSlice Cert.Reference3Ideal.S1x4096x16416 ![0, 0, 0] w
      Cert.Reference3Ideal.Gen.slices_S2x4096x16416_S1x4096x16416_0_0_0) Cert.Reference3Ideal.Gen.shapeCasts_S1x4096x16416_S4096x16416))
    Cert.Reference3Ideal.Gen.slices_S8192x16416_S8192x4096_0_0) Cert.Reference3Ideal.Gen.bitsLt_bf16_f32

theorem idx : ∀ t : Fin cfg0.N, win0_0.index t = ![t.val / 4, 0] ∧ win0_1.index t = ![0, 0, t.val % 4]
    ∧ win0_2.index t = ![t.val / 4, t.val % 4] := (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨t.val % 4 * 1024 + (j 2).val, by have : (j 2).val < 1024 := (j 2).isLt; omega⟩) := by
  funext j
  idx_vars j
  unfold X0_1 Pipeline.Window.fill
  rw [dif_pos (moved0_1 t _), ← weights m c]
  blk_ext [iblk, idx t]

/-- The kernel's result array. -/
theorem final : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf' y => ?_
  blk_simp
  rw [after0_2]
  unfold outsAt0
  frame_out
  pointwise [k0_pay1, REF]
  rw [block m c t]
  blk_point [iblk, V, idx t]

end Cert.Kernel3Ideal.Value

end
-- ==== Proof.FoxZ.lean ====
/- The attention's gate projection: the kernel's result array is the reference's product, cut to its columns. -/
module

public import proofs.«01_k».proof.Proof.Gen.Kernel4Ideal.Value
public import proofs.«01_k».proof.Proof.Gen.Reference4Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel4Ideal.Value

open Cert.Kernel4Ideal Cert.Kernel4Ideal.Gen
variable (m : (ℓ : Loc nD τ sig) → Buf (Elt Ideal) ℓ) (c : Dev nD)

/-- The reference's term over the kernel's arguments. -/
abbrev REF (h : FVec Ideal Cert.Reference4Ideal.S8192x4096 .bf16) (w : FVec Ideal Cert.Reference4Ideal.S2x4096x16416 .f32) :
    FVec Ideal Cert.Reference4Ideal.S8192x4096 .bf16 :=
  truncf .bf16 (extractStridedSlice Cert.Reference4Ideal.S8192x4096 ![0, 12288] (Host.dotGeneral (φ₂ := .f32)
    Cert.Reference4Ideal.dot_S8192x4096_S4096x16416_S8192x16416_1_0_0_1_n_n none (extf .f32 h Cert.Reference4Ideal.Gen.bitsLt_bf16_f32)
    (shapeCast _ (extractStridedSlice Cert.Reference4Ideal.S1x4096x16416 ![0, 0, 0] w
      Cert.Reference4Ideal.Gen.slices_S2x4096x16416_S1x4096x16416_0_0_0) Cert.Reference4Ideal.Gen.shapeCasts_S1x4096x16416_S4096x16416))
    Cert.Reference4Ideal.Gen.slices_S8192x16416_S8192x4096_0_12288) Cert.Reference4Ideal.Gen.bitsLt_bf16_f32

theorem idx : ∀ t : Fin cfg0.N, win0_0.index t = ![t.val / 4, 0] ∧ win0_1.index t = ![0, 0, 12 + t.val % 4]
    ∧ win0_2.index t = ![t.val / 4, t.val % 4] := (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨(12 + t.val % 4) * 1024 + (j 2).val, by have : (j 2).val < 1024 := (j 2).isLt; omega⟩) := by
  funext j
  idx_vars j
  unfold X0_1 Pipeline.Window.fill
  rw [dif_pos (moved0_1 t _), ← weights m c]
  blk_ext [iblk, idx t]

/-- The kernel's result array. -/
theorem final : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf' y => ?_
  blk_simp
  rw [after0_2]
  unfold outsAt0
  frame_out
  pointwise [k0_pay1, REF]
  rw [block m c t]
  blk_point [iblk, V, idx t]

end Cert.Kernel4Ideal.Value

end
-- ==== Proof.SsdOut.lean ====
/- The SSD mixer's output projection with the residual: the kernel's result array is the reference's. -/
module

public import proofs.«01_k».proof.Proof.Gen.Kernel5Ideal.Value
public import proofs.«01_k».proof.Proof.Gen.Reference5Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel5Ideal.Value

open Cert.Kernel5Ideal Cert.Kernel5Ideal.Gen
variable (m : (ℓ : Loc nD τ sig) → Buf (Elt Ideal) ℓ) (c : Dev nD)

/-- The reference's term over the kernel's arguments. -/
abbrev REF (y : FVec Ideal Cert.Reference5Ideal.S8192x8192 .bf16) (w : FVec Ideal Cert.Reference5Ideal.S2x8192x4096 .f32)
    (x : FVec Ideal Cert.Reference5Ideal.S8192x4096 .f32) (g : FVec Ideal Cert.Reference5Ideal.S4x4096 .f32) : FVec Ideal Cert.Reference5Ideal.S8192x4096 .f32 :=
  shapeCast _ (addf (shapeCast _ x Cert.Reference5Ideal.Gen.shapeCasts_S8192x4096_S4x2048x4096)
    (mulf (broadcastInDim Cert.Reference5Ideal.S4x2048x4096 ![0, 1, 2] Cert.Reference5Ideal.Gen.bcast_S4x1x4096_S4x2048x4096_0_1_2
        (broadcastInDim Cert.Reference5Ideal.S4x1x4096 ![0, 2] Cert.Reference5Ideal.Gen.bcast_S4x4096_S4x1x4096_0_2 g))
      (Host.dotGeneral (φ₂ := .f32) Cert.Reference5Ideal.dot_S4x2048x8192_S8192x4096_S4x2048x4096_2_0_01_1_n_n none
        (shapeCast _ (extf .f32 y Cert.Reference5Ideal.Gen.bitsLt_bf16_f32) Cert.Reference5Ideal.Gen.shapeCasts_S8192x8192_S4x2048x8192)
        (shapeCast _ (extractStridedSlice Cert.Reference5Ideal.S1x8192x4096 ![0, 0, 0] w
          Cert.Reference5Ideal.Gen.slices_S2x8192x4096_S1x8192x4096_0_0_0) Cert.Reference5Ideal.Gen.shapeCasts_S1x8192x4096_S8192x4096))))
    Cert.Reference5Ideal.Gen.shapeCasts_S4x2048x4096_S8192x4096

theorem idx : ∀ t : Fin cfg0.N, win0_0.index t = ![t.val / 8, 0] ∧ win0_1.index t = ![0, 0, t.val % 8]
    ∧ win0_2.index t = ![t.val / 8, t.val % 8] ∧ win0_3.index t = ![t.val / 32, 0, t.val % 8]
    ∧ win0_4.index t = ![t.val / 8, t.val % 8] := (by decide +kernel : ∀ t : Fin grid0.N, _)

/-- A weight block holds the weights of its columns. -/
theorem weights (t : Fin cfg0.N) : (iblk m c 1 t : Vec Ideal S1x8192x512 .bf16)
    = fun j => m ((c.tc : Thread nD τ).loc main_arg1) (ix3 0 (j 1) ⟨t.val % 8 * 512 + (j 2).val, by have : (j 2).val < 512 := (j 2).isLt; omega⟩) := by
  funext j
  idx_vars j
  have e : V m c main_v0 = m ((c.tc : Thread nD τ).loc main_arg1) := by
    unfold V
    after_results <;> rfl
  rw [← e]
  blk_ext [iblk, idx t]

/-- A gate block holds the gates of its sequence and columns. -/
theorem gates (t : Fin cfg0.N) : (iblk m c 3 t : Vec Ideal S1x1x512 .f32)
    = fun j => m ((c.tc : Thread nD τ).loc main_arg3) (ix2 ⟨t.val / 32, by have : t.val < 128 := lt_of_lt_of_eq t.isLt Gen.N_0; omega⟩
        ⟨t.val % 8 * 512 + (j 2).val, by have : (j 2).val < 512 := (j 2).isLt; omega⟩) := by
  funext j
  idx_vars j
  blk_ext! [iblk, V, idx t]

/-- The kernel's result array. -/
theorem final : (dats m 0 c).arrAt 4 (cfgs 0).N
    = REF (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf' y => ?_
  blk_simp
  rw [after0_4]
  frame_out
  pointwise [k0_pay1, REF]
  rw [weights m c t, gates m c t]
  blk_point [iblk, V, idx t]

end Cert.Kernel5Ideal.Value

end
-- ==== Proof.FoxOut.lean ====
/- The attention's output projection with the residual: the kernel's result array is the reference's. -/
module

public import proofs.«01_k».proof.Proof.Gen.Kernel6Ideal.Value
public import proofs.«01_k».proof.Proof.Gen.Reference6Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel6Ideal.Value

open Cert.Kernel6Ideal Cert.Kernel6Ideal.Gen
variable (m : (ℓ : Loc nD τ sig) → Buf (Elt Ideal) ℓ) (c : Dev nD)

/-- The reference's term over the kernel's arguments. -/
abbrev REF (y : FVec Ideal Cert.Reference6Ideal.S8192x4096 .bf16) (w : FVec Ideal Cert.Reference6Ideal.S2x4096x4096 .f32)
    (x : FVec Ideal Cert.Reference6Ideal.S8192x4096 .f32) (g : FVec Ideal Cert.Reference6Ideal.S4x4096 .f32) : FVec Ideal Cert.Reference6Ideal.S8192x4096 .f32 :=
  shapeCast _ (addf (shapeCast _ x Cert.Reference6Ideal.Gen.shapeCasts_S8192x4096_S4x2048x4096)
    (mulf (broadcastInDim Cert.Reference6Ideal.S4x2048x4096 ![0, 1, 2] Cert.Reference6Ideal.Gen.bcast_S4x1x4096_S4x2048x4096_0_1_2
        (broadcastInDim Cert.Reference6Ideal.S4x1x4096 ![0, 2] Cert.Reference6Ideal.Gen.bcast_S4x4096_S4x1x4096_0_2 g))
      (Host.dotGeneral (φ₂ := .f32) Cert.Reference6Ideal.dot_S4x2048x4096_S4096x4096_S4x2048x4096_2_0_01_1_n_n none
        (shapeCast _ (extf .f32 y Cert.Reference6Ideal.Gen.bitsLt_bf16_f32) Cert.Reference6Ideal.Gen.shapeCasts_S8192x4096_S4x2048x4096)
        (shapeCast _ (extractStridedSlice Cert.Reference6Ideal.S1x4096x4096 ![0, 0, 0] w
          Cert.Reference6Ideal.Gen.slices_S2x4096x4096_S1x4096x4096_0_0_0) Cert.Reference6Ideal.Gen.shapeCasts_S1x4096x4096_S4096x4096))))
    Cert.Reference6Ideal.Gen.shapeCasts_S4x2048x4096_S8192x4096

theorem idx : ∀ t : Fin cfg0.N, win0_0.index t = ![t.val / 4, 0] ∧ win0_1.index t = ![0, 0, t.val % 4]
    ∧ win0_2.index t = ![t.val / 4, t.val % 4] ∧ win0_3.index t = ![t.val / 8, 0, t.val % 4]
    ∧ win0_4.index t = ![t.val / 4, t.val % 4] := (by decide +kernel : ∀ t : Fin grid0.N, _)

/-- A weight block holds the weights of its columns. -/
theorem weights (t : Fin cfg0.N) : (iblk m c 1 t : Vec Ideal S1x4096x1024 .bf16)
    = fun j => m ((c.tc : Thread nD τ).loc main_arg1) (ix3 0 (j 1) ⟨t.val % 4 * 1024 + (j 2).val, by have : (j 2).val < 1024 := (j 2).isLt; omega⟩) := by
  funext j
  idx_vars j
  have e : V m c main_v0 = m ((c.tc : Thread nD τ).loc main_arg1) := by
    unfold V
    after_results <;> rfl
  rw [← e]
  blk_ext [iblk, idx t]

/-- A gate block holds the gates of its sequence and columns. -/
theorem gates (t : Fin cfg0.N) : (iblk m c 3 t : Vec Ideal S1x1x1024 .f32)
    = fun j => m ((c.tc : Thread nD τ).loc main_arg3) (ix2 ⟨t.val / 8, by have : t.val < 32 := lt_of_lt_of_eq t.isLt Gen.N_0; omega⟩
        ⟨t.val % 4 * 1024 + (j 2).val, by have : (j 2).val < 1024 := (j 2).isLt; omega⟩) := by
  funext j
  idx_vars j
  blk_ext! [iblk, V, idx t]

/-- The kernel's result array. -/
theorem final : (dats m 0 c).arrAt 4 (cfgs 0).N
    = REF (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf' y => ?_
  blk_simp
  rw [after0_4]
  frame_out
  pointwise [k0_pay1, REF]
  rw [weights m c t, gates m c t]
  blk_point [iblk, V, idx t]

end Cert.Kernel6Ideal.Value

end
-- ==== Proof.FoxK.lean ====
/- The attention's key projection: the kernel's two result arrays are the reference's. -/
module

public import proofs.«01_k».proof.Proof.Gen.Kernel7Ideal.Value
public import proofs.«01_k».proof.Proof.Gen.Reference7Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel7Ideal.Value

open Cert.Kernel7Ideal Cert.Kernel7Ideal.Gen
variable (m : (ℓ : Loc nD τ sig) → Buf (Elt Ideal) ℓ) (c : Dev nD)

/-- The reference's product, cut to this projection's columns, over the kernel's arguments. -/
abbrev PROJ (h : FVec Ideal Cert.Reference7Ideal.S8192x4096 .bf16) (w : FVec Ideal Cert.Reference7Ideal.S2x4096x16416 .f32) :
    FVec Ideal Cert.Reference7Ideal.S8192x4096 .f32 :=
  extractStridedSlice Cert.Reference7Ideal.S8192x4096 ![0, 4096] (Host.dotGeneral (φ₂ := .f32)
    Cert.Reference7Ideal.dot_S8192x4096_S4096x16416_S8192x16416_1_0_0_1_n_n none (extf .f32 h Cert.Reference7Ideal.Gen.bitsLt_bf16_f32)
    (shapeCast _ (extractStridedSlice Cert.Reference7Ideal.S1x4096x16416 ![0, 0, 0] w
      Cert.Reference7Ideal.Gen.slices_S2x4096x16416_S1x4096x16416_0_0_0) Cert.Reference7Ideal.Gen.shapeCasts_S1x4096x16416_S4096x16416))
    Cert.Reference7Ideal.Gen.slices_S8192x16416_S8192x4096_0_4096

/-- The reference's first result: the product as the first layer, the second layer kept. -/
abbrev REF (h : FVec Ideal Cert.Reference7Ideal.S8192x4096 .bf16) (w : FVec Ideal Cert.Reference7Ideal.S2x4096x16416 .f32)
    (a : FVec Ideal Cert.Reference7Ideal.S2x8192x4096 .f32) : FVec Ideal Cert.Reference7Ideal.S2x8192x4096 .f32 :=
  concatenate Cert.Reference7Ideal.S2x8192x4096 0 [⟨Cert.Reference7Ideal.S1x8192x4096, (broadcastInDim Cert.Reference7Ideal.S1x8192x4096 ![1, 2]
      Cert.Reference7Ideal.Gen.bcast_S8192x4096_S1x8192x4096_1_2 (PROJ h w))⟩,
    ⟨Cert.Reference7Ideal.S1x8192x4096, (broadcastInDim Cert.Reference7Ideal.S1x8192x4096 ![1, 2]
      Cert.Reference7Ideal.Gen.bcast_S8192x4096_S1x8192x4096_1_2 (shapeCast _ (extractStridedSlice Cert.Reference7Ideal.S1x8192x4096 ![1, 0, 0] a
        Cert.Reference7Ideal.Gen.slices_S2x8192x4096_S1x8192x4096_1_0_0) Cert.Reference7Ideal.Gen.shapeCasts_S1x8192x4096_S8192x4096))⟩]
    Cert.Reference7Ideal.Gen.concatenates_S1x8192x4096_S1x8192x4096_S2x8192x4096_d0

/-- The reference's second result. -/
abbrev REF16 (h : FVec Ideal Cert.Reference7Ideal.S8192x4096 .bf16) (w : FVec Ideal Cert.Reference7Ideal.S2x4096x16416 .f32) :
    FVec Ideal Cert.Reference7Ideal.S8192x4096 .bf16 := truncf .bf16 (PROJ h w) Cert.Reference7Ideal.Gen.bitsLt_bf16_f32

theorem idx : ∀ t : Fin cfg0.N, win0_0.index t = ![t.val / 4, 0] ∧ win0_1.index t = ![0, 0, 4 + t.val % 4]
    ∧ win0_2.index t = ![0, t.val / 4, t.val % 4] ∧ win0_3.index t = ![t.val / 4, t.val % 4] :=
  (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨(4 + t.val % 4) * 1024 + (j 2).val, by have : (j 2).val < 1024 := (j 2).isLt; omega⟩) := by
  funext j
  idx_vars j
  unfold X0_1 Pipeline.Window.fill
  rw [dif_pos (moved0_1 t _), ← weights m c]
  blk_ext [iblk, idx t]

/-- The kernel's second result array. -/
theorem final16 : (dats m 0 c).arrAt 3 (cfgs 0).N
    = REF16 (m ((c.tc : Thread nD τ).loc main_arg0)) (m ((c.tc : Thread nD τ).loc main_arg1)) := by
  refine (dats m 0 c).arrAt_eq_of_covers 3 _ (by decide +kernel) fun t hf' y => ?_
  blk_simp
  rw [after0_3]
  unfold outsAt0
  frame_out
  pointwise [k0_pay3, k0_pay1, REF16, PROJ]
  rw [block m c t]
  blk_point [iblk, V, idx t]

/-- The kernel's first result array: the first layer as written, the second as the call finds it. -/
theorem final_where : (dats m 0 c).arrAt 2 (cfgs 0).N
    = fun i => if (i 0).val = 0 then PROJ (m ((c.tc : Thread nD τ).loc main_arg0)) (m ((c.tc : Thread nD τ).loc main_arg1)) (ix2 (i 1) (i 2))
        else V m c main_v1_0 i := by
  refine (dats m 0 c).arrAt_eq_of_coversWhere 2 _ (fun β => β 0 = 0) (by decide +kernel) (fun t hf' y => ?_)
    (fun j => by blk_simp [Pipeline.Window.cell_apply]; omega)
  blk_simp
  rw [after0_2]
  unfold outsAt0
  frame_out
  pointwise [k0_pay2, k0_pay1, PROJ]
  rw [block m c t]
  blk_point [iblk, V, idx t]

/-- The kernel's first result array is the reference's. -/
theorem final : (dats m 0 c).arrAt 2 (cfgs 0).N
    = REF (m ((c.tc : Thread nD τ).loc main_arg0)) (m ((c.tc : Thread nD τ).loc main_arg1)) (m ((c.tc : Thread nD τ).loc main_arg2)) := by
  rw [final_where]
  funext i
  entry_read
  pointwise [REF, PROJ]
  by_cases h : (i 0).val = 0
  · rw [if_pos h, dif_pos (show (i 0).val < 1 by omega)]
  · rw [if_neg h, dif_neg (show ¬ (i 0).val < 1 by omega)]
    have h2 : (i 0).val < 2 := (i 0).isLt
    blk_ext

end Cert.Kernel7Ideal.Value

end
-- ==== Proof.FoxV.lean ====
/- The attention's value projection: the kernel's two result arrays are the reference's. -/
module

public import proofs.«01_k».proof.Proof.Gen.Kernel8Ideal.Value
public import proofs.«01_k».proof.Proof.Gen.Reference8Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel8Ideal.Value

open Cert.Kernel8Ideal Cert.Kernel8Ideal.Gen
variable (m : (ℓ : Loc nD τ sig) → Buf (Elt Ideal) ℓ) (c : Dev nD)

/-- The reference's product, cut to this projection's columns, over the kernel's arguments. -/
abbrev PROJ (h : FVec Ideal Cert.Reference8Ideal.S8192x4096 .bf16) (w : FVec Ideal Cert.Reference8Ideal.S2x4096x16416 .f32) :
    FVec Ideal Cert.Reference8Ideal.S8192x4096 .f32 :=
  extractStridedSlice Cert.Reference8Ideal.S8192x4096 ![0, 8192] (Host.dotGeneral (φ₂ := .f32)
    Cert.Reference8Ideal.dot_S8192x4096_S4096x16416_S8192x16416_1_0_0_1_n_n none (extf .f32 h Cert.Reference8Ideal.Gen.bitsLt_bf16_f32)
    (shapeCast _ (extractStridedSlice Cert.Reference8Ideal.S1x4096x16416 ![0, 0, 0] w
      Cert.Reference8Ideal.Gen.slices_S2x4096x16416_S1x4096x16416_0_0_0) Cert.Reference8Ideal.Gen.shapeCasts_S1x4096x16416_S4096x16416))
    Cert.Reference8Ideal.Gen.slices_S8192x16416_S8192x4096_0_8192

/-- The reference's first result: the product as the first layer, the second layer kept. -/
abbrev REF (h : FVec Ideal Cert.Reference8Ideal.S8192x4096 .bf16) (w : FVec Ideal Cert.Reference8Ideal.S2x4096x16416 .f32)
    (a : FVec Ideal Cert.Reference8Ideal.S2x8192x4096 .f32) : FVec Ideal Cert.Reference8Ideal.S2x8192x4096 .f32 :=
  concatenate Cert.Reference8Ideal.S2x8192x4096 0 [⟨Cert.Reference8Ideal.S1x8192x4096, (broadcastInDim Cert.Reference8Ideal.S1x8192x4096 ![1, 2]
      Cert.Reference8Ideal.Gen.bcast_S8192x4096_S1x8192x4096_1_2 (PROJ h w))⟩,
    ⟨Cert.Reference8Ideal.S1x8192x4096, (broadcastInDim Cert.Reference8Ideal.S1x8192x4096 ![1, 2]
      Cert.Reference8Ideal.Gen.bcast_S8192x4096_S1x8192x4096_1_2 (shapeCast _ (extractStridedSlice Cert.Reference8Ideal.S1x8192x4096 ![1, 0, 0] a
        Cert.Reference8Ideal.Gen.slices_S2x8192x4096_S1x8192x4096_1_0_0) Cert.Reference8Ideal.Gen.shapeCasts_S1x8192x4096_S8192x4096))⟩]
    Cert.Reference8Ideal.Gen.concatenates_S1x8192x4096_S1x8192x4096_S2x8192x4096_d0

/-- The reference's second result. -/
abbrev REF16 (h : FVec Ideal Cert.Reference8Ideal.S8192x4096 .bf16) (w : FVec Ideal Cert.Reference8Ideal.S2x4096x16416 .f32) :
    FVec Ideal Cert.Reference8Ideal.S8192x4096 .bf16 := truncf .bf16 (PROJ h w) Cert.Reference8Ideal.Gen.bitsLt_bf16_f32

theorem idx : ∀ t : Fin cfg0.N, win0_0.index t = ![t.val / 4, 0] ∧ win0_1.index t = ![0, 0, 8 + t.val % 4]
    ∧ win0_2.index t = ![0, t.val / 4, t.val % 4] ∧ win0_3.index t = ![t.val / 4, t.val % 4] :=
  (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨(8 + t.val % 4) * 1024 + (j 2).val, by have : (j 2).val < 1024 := (j 2).isLt; omega⟩) := by
  funext j
  idx_vars j
  unfold X0_1 Pipeline.Window.fill
  rw [dif_pos (moved0_1 t _), ← weights m c]
  blk_ext [iblk, idx t]

/-- The kernel's second result array. -/
theorem final16 : (dats m 0 c).arrAt 3 (cfgs 0).N
    = REF16 (m ((c.tc : Thread nD τ).loc main_arg0)) (m ((c.tc : Thread nD τ).loc main_arg1)) := by
  refine (dats m 0 c).arrAt_eq_of_covers 3 _ (by decide +kernel) fun t hf' y => ?_
  blk_simp
  rw [after0_3]
  unfold outsAt0
  frame_out
  pointwise [k0_pay3, k0_pay1, REF16, PROJ]
  rw [block m c t]
  blk_point [iblk, V, idx t]

/-- The kernel's first result array: the first layer as written, the second as the call finds it. -/
theorem final_where : (dats m 0 c).arrAt 2 (cfgs 0).N
    = fun i => if (i 0).val = 0 then PROJ (m ((c.tc : Thread nD τ).loc main_arg0)) (m ((c.tc : Thread nD τ).loc main_arg1)) (ix2 (i 1) (i 2))
        else V m c main_v1_0 i := by
  refine (dats m 0 c).arrAt_eq_of_coversWhere 2 _ (fun β => β 0 = 0) (by decide +kernel) (fun t hf' y => ?_)
    (fun j => by blk_simp [Pipeline.Window.cell_apply]; omega)
  blk_simp
  rw [after0_2]
  unfold outsAt0
  frame_out
  pointwise [k0_pay2, k0_pay1, PROJ]
  rw [block m c t]
  blk_point [iblk, V, idx t]

/-- The kernel's first result array is the reference's. -/
theorem final : (dats m 0 c).arrAt 2 (cfgs 0).N
    = REF (m ((c.tc : Thread nD τ).loc main_arg0)) (m ((c.tc : Thread nD τ).loc main_arg1)) (m ((c.tc : Thread nD τ).loc main_arg2)) := by
  rw [final_where]
  funext i
  entry_read
  pointwise [REF, PROJ]
  by_cases h : (i 0).val = 0
  · rw [if_pos h, dif_pos (show (i 0).val < 1 by omega)]
  · rw [if_neg h, dif_neg (show ¬ (i 0).val < 1 by omega)]
    have h2 : (i 0).val < 2 := (i 0).isLt
    blk_ext

end Cert.Kernel8Ideal.Value

end
-- ==== Proof.LogSig.lean ====
/- The forget gate's scalars: the pad value is zero, and the logarithm of the logistic function as kernel and reference spell it. -/
module

public import Idealize.ShloMosaic.Lib.Claim
public import Idealize.ShloMosaic.Lib.Pipeline.ValueKit

@[expose] public section

noncomputable section

open Idealize.ShloMosaic

namespace Cert.LogSig

/-- The integer zero, made a number. -/
theorem zero : FloatOps.sitofp (F := Ideal) FTy.f32 0#32 = (0 : EReal) := by
  simp [FloatOps.sitofp]

/-- The kernel subtracts from zero where the reference negates, and the reference first asks whether its argument is a number. -/
theorem logsig {y z : EReal} (h : y = z) : 0 - (max (0 - y) 0 + Ideal.log1p (Ideal.exp (0 - FloatOps.absf (F := Ideal) (φ := .f32) (0 - y))))
    = -(if -z ≠ -z then -z else max (-z) 0 + Ideal.log1p (Ideal.exp (-FloatOps.absf (F := Ideal) (φ := .f32) (-z)))) := by
  subst h
  simp only [zero_sub, ne_eq, not_true_eq_false, if_false]

end Cert.LogSig

end
-- ==== Proof.Logf.lean ====
/- The forget gate: the kernel's result array is the reference's. -/
module

public import proofs.«01_k».proof.Proof.Gen.Kernel10Ideal.Value
public import proofs.«01_k».proof.Proof.Gen.Reference10Ideal.Run
public import proofs.«01_k».proof.Proof.LogSig

@[expose] public section

set_option maxRecDepth 16384

noncomputable section

open Idealize.ShloMosaic Idealize.ShloMosaic.TcCoe Idealize.SL.Sem

namespace Cert.Kernel10Ideal.Value

open Cert.Kernel10Ideal Cert.Kernel10Ideal.Gen
variable (m : (ℓ : Loc nD τ sig) → Buf (Elt Ideal) ℓ) (c : Dev nD)

/-- The reference's logits, padded to the kernel's columns. -/
def LOGIT (h : FVec Ideal Cert.Reference10Ideal.S8192x4096 .bf16) (w : FVec Ideal Cert.Reference10Ideal.S2x4096x16416 .f32) (b : FVec Ideal Cert.Reference10Ideal.S2x32 .f32) : FVec Ideal Cert.Reference10Ideal.S8192x128 .f32 :=
  pad Cert.Reference10Ideal.S8192x128 ![0, 0] ![0, 96] ![0, 0] (addf (extractStridedSlice Cert.Reference10Ideal.S8192x32 ![0, 16384] (Host.dotGeneral (φ₂ := .f32)
      Cert.Reference10Ideal.dot_S8192x4096_S4096x16416_S8192x16416_1_0_0_1_n_n none (extf .f32 h Cert.Reference10Ideal.Gen.bitsLt_bf16_f32)
      (shapeCast _ (extractStridedSlice Cert.Reference10Ideal.S1x4096x16416 ![0, 0, 0] w Cert.Reference10Ideal.Gen.slices_S2x4096x16416_S1x4096x16416_0_0_0)
        Cert.Reference10Ideal.Gen.shapeCasts_S1x4096x16416_S4096x16416)) Cert.Reference10Ideal.Gen.slices_S8192x16416_S8192x32_0_16384)
    (broadcastInDim Cert.Reference10Ideal.S8192x32 ![0, 1] Cert.Reference10Ideal.Gen.bcast_S1x32_S8192x32_0_1 (broadcastInDim Cert.Reference10Ideal.S1x32 ![1] Cert.Reference10Ideal.Gen.bcast_S32_S1x32_1
      (shapeCast _ (extractStridedSlice Cert.Reference10Ideal.S1x32 ![0, 0] b Cert.Reference10Ideal.Gen.slices_S2x32_S1x32_0_0) Cert.Reference10Ideal.Gen.shapeCasts_S1x32_S32))))
    (sitofp .f32 (constantI Cert.Reference10Ideal.S_ 32 0#32)) Cert.Reference10Ideal.Gen.pads_S8192x32_S8192x128_000_0960 Cert.Reference10Ideal.Gen.h_S_

abbrev ZERO : FVec Ideal Cert.Reference10Ideal.S8192x128 .f32 := broadcastInDim Cert.Reference10Ideal.S8192x128 ![] Cert.Reference10Ideal.Gen.bcast_S_S8192x128 (constant Cert.Reference10Ideal.S_ .f32 0x00000000#32)

/-- The reference's logarithm of the logistic function, as its operations spell it. -/
def LOGSIG (x : FVec Ideal Cert.Reference10Ideal.S8192x128 .f32) : FVec Ideal Cert.Reference10Ideal.S8192x128 .f32 :=
  Host.negf (select (cmpf .une (subf (Host.negf x) ZERO) (subf (Host.negf x) ZERO)) (addf (Host.negf x) ZERO)
    (addf (maximumf (Host.negf x) ZERO) (Host.log1p (Host.exp (Host.negf (Host.absf (subf (Host.negf x) ZERO)))))))

theorem idx : ∀ t : Fin cfg0.N, win0_0.index t = ![t.val, 0]
    ∧ win0_1.index t = ![0, 0, 0]
    ∧ win0_2.index t = ![0, 0]
    ∧ win0_3.index t = ![t.val, 0] :=
  (by decide +kernel : ∀ t : Fin grid0.N, _)

/-- The weights as the call finds them: the gate's columns of the argument, padded. -/
def WPAD (w : FVec Ideal S2x4096x16416 .f32) : FVec Ideal S1x4096x128 .bf16 :=
  extractStridedSlice S1x4096x128 ![0, 0, 0] (truncf .bf16 (pad S2x4096x128 ![0, 0, 0] ![0, 0, 96] ![0, 0, 0]
    (extractStridedSlice S2x4096x32 ![0, 0, 16384] w slices_S2x4096x16416_S2x4096x32_0_0_16384)
    (sitofp .f32 (constantI S_ 32 0#32)) pads_S2x4096x32_S2x4096x128_000_000_0960 h_S_) bitsLt_bf16_f32) slices_S2x4096x128_S1x4096x128_0_0_0

/-- The bias as the call finds it: one layer's row of the argument, padded. -/
def BPAD (b : FVec Ideal S2x32 .f32) : FVec Ideal S1x128 .f32 :=
  shapeCast S1x128 (pad S128 ![0] ![96] ![0] (shapeCast S32 (extractStridedSlice S1x32 ![0, 0] b slices_S2x32_S1x32_0_0) shapeCasts_S1x32_S32)
    (sitofp .f32 (constantI S_ 32 0#32)) pads_S32_S128_0960 h_S_) shapeCasts_S128_S1x128

theorem weights : V m c main_v7 = WPAD (m ((c.tc : Thread nD τ).loc main_arg1)) := by
  unfold V
  simp only [List.flatten, List.append_eq, List.append_assoc, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl

theorem bias : V m c main_v6 = BPAD (m ((c.tc : Thread nD τ).loc main_arg2)) := by
  unfold V
  simp only [List.flatten, List.append_eq, List.append_assoc, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl

/-- The host operations leave the weights' and the bias's arguments. -/
theorem kept : V m c main_arg1 = m ((c.tc : Thread nD τ).loc main_arg1) ∧ V m c main_arg2 = m ((c.tc : Thread nD τ).loc main_arg2) := by
  constructor <;> (
    unfold V
    simp only [List.flatten, List.append_eq, List.append_assoc, List.cons_append, List.nil_append, hostOps0, hostOps0_1, hostOps0_2, hostOps0_3, hostOps0_4,
      StableHlo.TRef.binary, StableHlo.TRef.nullary, StableHlo.TRef.ternary, StableHlo.TRef.unary, StableHlo.TRef.toBuf, StableHlo.TRef.ofBuf, cast_eq]
    after_results_simp)

/-- The weights' block at every point. -/
theorem weightsBlock (t : Fin cfg0.N) : (iblk m c 1 t : Vec Ideal S1x4096x128 .bf16) = WPAD (m ((c.tc : Thread nD τ).loc main_arg1)) := by
  funext j
  idx_vars j
  refine Eq.trans ?_ (congrFun (weights m c) _)
  blk_ext [iblk, idx t]

/-- The bias's block at every point. -/
theorem biasBlock (t : Fin cfg0.N) : (iblk m c 2 t : Vec Ideal S1x128 .f32) = BPAD (m ((c.tc : Thread nD τ).loc main_arg2)) := by
  funext j
  idx_vars j
  refine Eq.trans ?_ (congrFun (bias m c) _)
  blk_ext [iblk, idx t]

/-- One padded logit: the kernel's product of the padded weights and bias is the reference's padded product. -/
theorem logit (h : FVec Ideal Cert.Reference10Ideal.S8192x4096 .bf16) (w : FVec Ideal Cert.Reference10Ideal.S2x4096x16416 .f32) (b : FVec Ideal Cert.Reference10Ideal.S2x32 .f32)
    (r : Fin 8192) (k : Fin 128) :
    (∑ x : Fin 4096, (h (ix2 r x) : EReal) * WPAD w (ix3 0 x k)) + BPAD b (ix2 0 k) = LOGIT h w b (ix2 r k) := by
  have hw : ∀ x : Fin 4096, WPAD w (ix3 0 x k) = if h : k.val < 32 then w (ix3 0 x ⟨16384 + k.val, by omega⟩) else (0 : EReal) := by
    intro x
    pointwise [WPAD, LogSig.zero]
  have hb : BPAD b (ix2 0 k) = if h : k.val < 32 then b (ix2 0 ⟨k.val, h⟩) else (0 : EReal) := by
    pointwise [BPAD, LogSig.zero]
  have hl : LOGIT h w b (ix2 r k) = if g : k.val < 32 then
      (∑ x : Fin 4096, (h (ix2 r x) : EReal) * w (ix3 0 x ⟨16384 + k.val, by omega⟩)) + b (ix2 0 ⟨k.val, g⟩) else (0 : EReal) := by
    pointwise [LOGIT, LogSig.zero]
  rw [hl, hb, Finset.sum_congr rfl fun x _ => by rw [hw x]]
  by_cases g : k.val < 32
  · simp only [dif_pos g]
  · simp only [dif_neg g, mul_zero, Finset.sum_const_zero, add_zero]

/-- The same at a position of the result, the rows read through any function that agrees with them. -/
theorem logitAt (h : FVec Ideal Cert.Reference10Ideal.S8192x4096 .bf16) (w : FVec Ideal Cert.Reference10Ideal.S2x4096x16416 .f32) (b : FVec Ideal Cert.Reference10Ideal.S2x32 .f32)
    (z : Cert.Reference10Ideal.S8192x128.Idx) (g : Fin 4096 → EReal) (k : Fin 128) (hk : k = z 1) (hg : ∀ x, g x = h (ix2 (z 0) x)) :
    (∑ x : Fin 4096, g x * WPAD w (ix3 0 x k)) + BPAD b (ix2 0 k) = LOGIT h w b z := by
  subst hk
  simp only [hg]
  idx_vars z
  exact logit ..

/-- The kernel's result array. -/
theorem final : (dats m 0 c).arrAt 3 (cfgs 0).N
    = LOGSIG (LOGIT (m ((c.tc : Thread nD τ).loc main_arg0)) (m ((c.tc : Thread nD τ).loc main_arg1)) (m ((c.tc : Thread nD τ).loc main_arg2))) := by
  refine (dats m 0 c).arrAt_eq_of_covers 3 _ (by decide +kernel) fun t hf' y => ?_
  blk_simp
  rw [after0_3]
  frame_out
  pointwise [k0_pay1, LOGSIG, ZERO]
  rw [weightsBlock m c t, biasBlock m c t]
  refine LogSig.logsig (logitAt _ _ _ _ _ _ ?_ fun x => ?_)
  · have hi := idx t
    refine Fin.ext ?_
    show _ = (win0_3.rect t).off 1 + 1 * (y 1).val
    simp [Pipeline.Window.rect, hi]
  · blk_point [iblk, V, idx t]

end Cert.Kernel10Ideal.Value

end
-- ==== Proof.LogfS.lean ====
/- The forget gate of the sampled batch: the kernel's result array is the reference's. -/
module

public import proofs.«01_k».proof.Proof.Gen.Kernel13Ideal.Value
public import proofs.«01_k».proof.Proof.Gen.Reference13Ideal.Run
public import proofs.«01_k».proof.Proof.LogSig

@[expose] public section

set_option maxRecDepth 16384

noncomputable section

open Idealize.ShloMosaic Idealize.ShloMosaic.TcCoe Idealize.SL.Sem

namespace Cert.Kernel13Ideal.Value

open Cert.Kernel13Ideal Cert.Kernel13Ideal.Gen
variable (m : (ℓ : Loc nD τ sig) → Buf (Elt Ideal) ℓ) (c : Dev nD)

/-- The reference's logits, padded to the kernel's columns. -/
def LOGIT (h : FVec Ideal Cert.Reference13Ideal.S32x4096 .bf16) (w : FVec Ideal Cert.Reference13Ideal.S2x4096x16416 .f32) (b : FVec Ideal Cert.Reference13Ideal.S2x32 .f32) : FVec Ideal Cert.Reference13Ideal.S32x128 .f32 :=
  pad Cert.Reference13Ideal.S32x128 ![0, 0] ![0, 96] ![0, 0] (addf (extractStridedSlice Cert.Reference13Ideal.S32x32 ![0, 16384] (Host.dotGeneral (φ₂ := .f32)
      Cert.Reference13Ideal.dot_S32x4096_S4096x16416_S32x16416_1_0_0_1_n_n none (extf .f32 h Cert.Reference13Ideal.Gen.bitsLt_bf16_f32)
      (shapeCast _ (extractStridedSlice Cert.Reference13Ideal.S1x4096x16416 ![0, 0, 0] w Cert.Reference13Ideal.Gen.slices_S2x4096x16416_S1x4096x16416_0_0_0)
        Cert.Reference13Ideal.Gen.shapeCasts_S1x4096x16416_S4096x16416)) Cert.Reference13Ideal.Gen.slices_S32x16416_S32x32_0_16384)
    (broadcastInDim Cert.Reference13Ideal.S32x32 ![0, 1] Cert.Reference13Ideal.Gen.bcast_S1x32_S32x32_0_1 (broadcastInDim Cert.Reference13Ideal.S1x32 ![1] Cert.Reference13Ideal.Gen.bcast_S32_S1x32_1
      (shapeCast _ (extractStridedSlice Cert.Reference13Ideal.S1x32 ![0, 0] b Cert.Reference13Ideal.Gen.slices_S2x32_S1x32_0_0) Cert.Reference13Ideal.Gen.shapeCasts_S1x32_S32))))
    (sitofp .f32 (constantI Cert.Reference13Ideal.S_ 32 0#32)) Cert.Reference13Ideal.Gen.pads_S32x32_S32x128_000_0960 Cert.Reference13Ideal.Gen.h_S_

abbrev ZERO : FVec Ideal Cert.Reference13Ideal.S32x128 .f32 := broadcastInDim Cert.Reference13Ideal.S32x128 ![] Cert.Reference13Ideal.Gen.bcast_S_S32x128 (constant Cert.Reference13Ideal.S_ .f32 0x00000000#32)

/-- The reference's logarithm of the logistic function, as its operations spell it. -/
def LOGSIG (x : FVec Ideal Cert.Reference13Ideal.S32x128 .f32) : FVec Ideal Cert.Reference13Ideal.S32x128 .f32 :=
  Host.negf (select (cmpf .une (subf (Host.negf x) ZERO) (subf (Host.negf x) ZERO)) (addf (Host.negf x) ZERO)
    (addf (maximumf (Host.negf x) ZERO) (Host.log1p (Host.exp (Host.negf (Host.absf (subf (Host.negf x) ZERO)))))))

theorem idx : ∀ t : Fin cfg0.N, win0_0.index t = ![0, 0]
    ∧ win0_1.index t = ![0, 0, 0]
    ∧ win0_2.index t = ![0, 0]
    ∧ win0_3.index t = ![0, 0] :=
  (by decide +kernel : ∀ t : Fin grid0.N, _)

/-- The weights as the call finds them: the gate's columns of the argument, padded. -/
def WPAD (w : FVec Ideal S2x4096x16416 .f32) : FVec Ideal S1x4096x128 .bf16 :=
  extractStridedSlice S1x4096x128 ![0, 0, 0] (truncf .bf16 (pad S2x4096x128 ![0, 0, 0] ![0, 0, 96] ![0, 0, 0]
    (extractStridedSlice S2x4096x32 ![0, 0, 16384] w slices_S2x4096x16416_S2x4096x32_0_0_16384)
    (sitofp .f32 (constantI S_ 32 0#32)) pads_S2x4096x32_S2x4096x128_000_000_0960 h_S_) bitsLt_bf16_f32) slices_S2x4096x128_S1x4096x128_0_0_0

/-- The bias as the call finds it: one layer's row of the argument, padded. -/
def BPAD (b : FVec Ideal S2x32 .f32) : FVec Ideal S1x128 .f32 :=
  shapeCast S1x128 (pad S128 ![0] ![96] ![0] (shapeCast S32 (extractStridedSlice S1x32 ![0, 0] b slices_S2x32_S1x32_0_0) shapeCasts_S1x32_S32)
    (sitofp .f32 (constantI S_ 32 0#32)) pads_S32_S128_0960 h_S_) shapeCasts_S128_S1x128

theorem weights : V m c main_v7 = WPAD (m ((c.tc : Thread nD τ).loc main_arg1)) := by
  unfold V
  simp only [List.flatten, List.append_eq, List.append_assoc, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl

theorem bias : V m c main_v6 = BPAD (m ((c.tc : Thread nD τ).loc main_arg2)) := by
  unfold V
  simp only [List.flatten, List.append_eq, List.append_assoc, List.cons_append, List.nil_append, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl

/-- The host operations leave the weights' and the bias's arguments. -/
theorem kept : V m c main_arg1 = m ((c.tc : Thread nD τ).loc main_arg1) ∧ V m c main_arg2 = m ((c.tc : Thread nD τ).loc main_arg2) := by
  constructor <;> (
    unfold V
    simp only [List.flatten, List.append_eq, List.append_assoc, List.cons_append, List.nil_append, hostOps0, hostOps0_1, hostOps0_2, hostOps0_3, hostOps0_4,
      StableHlo.TRef.binary, StableHlo.TRef.nullary, StableHlo.TRef.ternary, StableHlo.TRef.unary, StableHlo.TRef.toBuf, StableHlo.TRef.ofBuf, cast_eq]
    after_results_simp)

/-- The weights' block at every point. -/
theorem weightsBlock (t : Fin cfg0.N) : (iblk m c 1 t : Vec Ideal S1x4096x128 .bf16) = WPAD (m ((c.tc : Thread nD τ).loc main_arg1)) := by
  funext j
  idx_vars j
  refine Eq.trans ?_ (congrFun (weights m c) _)
  blk_ext [iblk, idx t]

/-- The bias's block at every point. -/
theorem biasBlock (t : Fin cfg0.N) : (iblk m c 2 t : Vec Ideal S1x128 .f32) = BPAD (m ((c.tc : Thread nD τ).loc main_arg2)) := by
  funext j
  idx_vars j
  refine Eq.trans ?_ (congrFun (bias m c) _)
  blk_ext [iblk, idx t]

/-- One padded logit: the kernel's product of the padded weights and bias is the reference's padded product. -/
theorem logit (h : FVec Ideal Cert.Reference13Ideal.S32x4096 .bf16) (w : FVec Ideal Cert.Reference13Ideal.S2x4096x16416 .f32) (b : FVec Ideal Cert.Reference13Ideal.S2x32 .f32)
    (r : Fin 32) (k : Fin 128) :
    (∑ x : Fin 4096, (h (ix2 r x) : EReal) * WPAD w (ix3 0 x k)) + BPAD b (ix2 0 k) = LOGIT h w b (ix2 r k) := by
  have hw : ∀ x : Fin 4096, WPAD w (ix3 0 x k) = if h : k.val < 32 then w (ix3 0 x ⟨16384 + k.val, by omega⟩) else (0 : EReal) := by
    intro x
    pointwise [WPAD, LogSig.zero]
  have hb : BPAD b (ix2 0 k) = if h : k.val < 32 then b (ix2 0 ⟨k.val, h⟩) else (0 : EReal) := by
    pointwise [BPAD, LogSig.zero]
  have hl : LOGIT h w b (ix2 r k) = if g : k.val < 32 then
      (∑ x : Fin 4096, (h (ix2 r x) : EReal) * w (ix3 0 x ⟨16384 + k.val, by omega⟩)) + b (ix2 0 ⟨k.val, g⟩) else (0 : EReal) := by
    pointwise [LOGIT, LogSig.zero]
  rw [hl, hb, Finset.sum_congr rfl fun x _ => by rw [hw x]]
  by_cases g : k.val < 32
  · simp only [dif_pos g]
  · simp only [dif_neg g, mul_zero, Finset.sum_const_zero, add_zero]

/-- The same at a position of the result, the rows read through any function that agrees with them. -/
theorem logitAt (h : FVec Ideal Cert.Reference13Ideal.S32x4096 .bf16) (w : FVec Ideal Cert.Reference13Ideal.S2x4096x16416 .f32) (b : FVec Ideal Cert.Reference13Ideal.S2x32 .f32)
    (z : Cert.Reference13Ideal.S32x128.Idx) (g : Fin 4096 → EReal) (k : Fin 128) (hk : k = z 1) (hg : ∀ x, g x = h (ix2 (z 0) x)) :
    (∑ x : Fin 4096, g x * WPAD w (ix3 0 x k)) + BPAD b (ix2 0 k) = LOGIT h w b z := by
  subst hk
  simp only [hg]
  idx_vars z
  exact logit ..

/-- The kernel's result array. -/
theorem final : (dats m 0 c).arrAt 3 (cfgs 0).N
    = LOGSIG (LOGIT (m ((c.tc : Thread nD τ).loc main_arg0)) (m ((c.tc : Thread nD τ).loc main_arg1)) (m ((c.tc : Thread nD τ).loc main_arg2))) := by
  refine (dats m 0 c).arrAt_eq_of_covers 3 _ (by decide +kernel) fun t hf' y => ?_
  blk_simp
  rw [after0_3]
  frame_out
  pointwise [k0_pay1, LOGSIG, ZERO]
  rw [weightsBlock m c t, biasBlock m c t]
  refine LogSig.logsig (logitAt _ _ _ _ _ _ ?_ fun x => ?_)
  · have hi := idx t
    refine Fin.ext ?_
    show _ = (win0_3.rect t).off 1 + 1 * (y 1).val
    simp [Pipeline.Window.rect, hi]
  · blk_point [iblk, V, idx t]

end Cert.Kernel13Ideal.Value

end
-- ==== Proof.FoxKS.lean ====
/- The sampled batch's key projection: the kernel's two result arrays are the reference's. -/
module

public import proofs.«01_k».proof.Proof.Gen.Kernel11Ideal.Value
public import proofs.«01_k».proof.Proof.Gen.Reference11Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel11Ideal.Value

open Cert.Kernel11Ideal Cert.Kernel11Ideal.Gen
variable (m : (ℓ : Loc nD τ sig) → Buf (Elt Ideal) ℓ) (c : Dev nD)

/-- The reference's product, cut to this projection's columns, over the kernel's arguments. -/
abbrev PROJ (h : FVec Ideal Cert.Reference11Ideal.S32x4096 .bf16) (w : FVec Ideal Cert.Reference11Ideal.S2x4096x16416 .f32) :
    FVec Ideal Cert.Reference11Ideal.S32x4096 .f32 :=
  extractStridedSlice Cert.Reference11Ideal.S32x4096 ![0, 4096] (Host.dotGeneral (φ₂ := .f32)
    Cert.Reference11Ideal.dot_S32x4096_S4096x16416_S32x16416_1_0_0_1_n_n none (extf .f32 h Cert.Reference11Ideal.Gen.bitsLt_bf16_f32)
    (shapeCast _ (extractStridedSlice Cert.Reference11Ideal.S1x4096x16416 ![0, 0, 0] w
      Cert.Reference11Ideal.Gen.slices_S2x4096x16416_S1x4096x16416_0_0_0) Cert.Reference11Ideal.Gen.shapeCasts_S1x4096x16416_S4096x16416))
    Cert.Reference11Ideal.Gen.slices_S32x16416_S32x4096_0_4096

theorem idx : ∀ t : Fin cfg0.N, win0_0.index t = ![0, 0]
    ∧ win0_1.index t = ![0, 0, 4 + t.val]
    ∧ win0_2.index t = ![0, t.val]
    ∧ win0_3.index t = ![0, t.val] :=
  (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨(4 + t.val) * 1024 + (j 2).val, by have : (j 2).val < 1024 := (j 2).isLt; have : t.val < _ := lt_of_lt_of_eq t.isLt Gen.N_0; omega⟩) := by
  funext j
  idx_vars j
  unfold X0_1 Pipeline.Window.fill
  rw [dif_pos (moved0_1 t _), ← weights m c]
  blk_ext [iblk, idx t]

/-- The kernel's first result array. -/
theorem final : (dats m 0 c).arrAt 2 (cfgs 0).N
    = PROJ (m ((c.tc : Thread nD τ).loc main_arg0)) (m ((c.tc : Thread nD τ).loc main_arg1)) := by
  refine (dats m 0 c).arrAt_eq_of_covers 2 _ (by decide +kernel) fun t hf' y => ?_
  blk_simp
  rw [after0_2]
  unfold outsAt0
  frame_out
  pointwise [k0_pay1, PROJ]
  rw [block m c t]
  blk_point [iblk, V, idx t]

/-- The kernel's second result array. -/
theorem final16 : (dats m 0 c).arrAt 3 (cfgs 0).N
    = truncf .bf16 (PROJ (m ((c.tc : Thread nD τ).loc main_arg0)) (m ((c.tc : Thread nD τ).loc main_arg1))) Cert.Reference11Ideal.Gen.bitsLt_bf16_f32 := by
  refine (dats m 0 c).arrAt_eq_of_covers 3 _ (by decide +kernel) fun t hf' y => ?_
  blk_simp
  rw [after0_3]
  unfold outsAt0
  frame_out
  pointwise [k0_pay2, k0_pay1, PROJ]
  rw [block m c t]
  blk_point [iblk, V, idx t]

end Cert.Kernel11Ideal.Value

end
-- ==== Proof.FoxVS.lean ====
/- The sampled batch's value projection: the kernel's two result arrays are the reference's. -/
module

public import proofs.«01_k».proof.Proof.Gen.Kernel12Ideal.Value
public import proofs.«01_k».proof.Proof.Gen.Reference12Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel12Ideal.Value

open Cert.Kernel12Ideal Cert.Kernel12Ideal.Gen
variable (m : (ℓ : Loc nD τ sig) → Buf (Elt Ideal) ℓ) (c : Dev nD)

/-- The reference's product, cut to this projection's columns, over the kernel's arguments. -/
abbrev PROJ (h : FVec Ideal Cert.Reference12Ideal.S32x4096 .bf16) (w : FVec Ideal Cert.Reference12Ideal.S2x4096x16416 .f32) :
    FVec Ideal Cert.Reference12Ideal.S32x4096 .f32 :=
  extractStridedSlice Cert.Reference12Ideal.S32x4096 ![0, 8192] (Host.dotGeneral (φ₂ := .f32)
    Cert.Reference12Ideal.dot_S32x4096_S4096x16416_S32x16416_1_0_0_1_n_n none (extf .f32 h Cert.Reference12Ideal.Gen.bitsLt_bf16_f32)
    (shapeCast _ (extractStridedSlice Cert.Reference12Ideal.S1x4096x16416 ![0, 0, 0] w
      Cert.Reference12Ideal.Gen.slices_S2x4096x16416_S1x4096x16416_0_0_0) Cert.Reference12Ideal.Gen.shapeCasts_S1x4096x16416_S4096x16416))
    Cert.Reference12Ideal.Gen.slices_S32x16416_S32x4096_0_8192

theorem idx : ∀ t : Fin cfg0.N, win0_0.index t = ![0, 0]
    ∧ win0_1.index t = ![0, 0, 8 + t.val]
    ∧ win0_2.index t = ![0, t.val]
    ∧ win0_3.index t = ![0, t.val] :=
  (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨(8 + t.val) * 1024 + (j 2).val, by have : (j 2).val < 1024 := (j 2).isLt; have : t.val < _ := lt_of_lt_of_eq t.isLt Gen.N_0; omega⟩) := by
  funext j
  idx_vars j
  unfold X0_1 Pipeline.Window.fill
  rw [dif_pos (moved0_1 t _), ← weights m c]
  blk_ext [iblk, idx t]

/-- The kernel's first result array. -/
theorem final : (dats m 0 c).arrAt 2 (cfgs 0).N
    = PROJ (m ((c.tc : Thread nD τ).loc main_arg0)) (m ((c.tc : Thread nD τ).loc main_arg1)) := by
  refine (dats m 0 c).arrAt_eq_of_covers 2 _ (by decide +kernel) fun t hf' y => ?_
  blk_simp
  rw [after0_2]
  unfold outsAt0
  frame_out
  pointwise [k0_pay1, PROJ]
  rw [block m c t]
  blk_point [iblk, V, idx t]

/-- The kernel's second result array. -/
theorem final16 : (dats m 0 c).arrAt 3 (cfgs 0).N
    = truncf .bf16 (PROJ (m ((c.tc : Thread nD τ).loc main_arg0)) (m ((c.tc : Thread nD τ).loc main_arg1))) Cert.Reference12Ideal.Gen.bitsLt_bf16_f32 := by
  refine (dats m 0 c).arrAt_eq_of_covers 3 _ (by decide +kernel) fun t hf' y => ?_
  blk_simp
  rw [after0_3]
  unfold outsAt0
  frame_out
  pointwise [k0_pay2, k0_pay1, PROJ]
  rw [block m c t]
  blk_point [iblk, V, idx t]

end Cert.Kernel12Ideal.Value

end
-- ==== Proof.SsdXbcS.lean ====
/- The sampled batch's xbc projection in the state-space mixer: the kernel's result array is the reference's product, cut to its columns. -/
module

public import proofs.«01_k».proof.Proof.Gen.Kernel14Ideal.Value
public import proofs.«01_k».proof.Proof.Gen.Reference14Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel14Ideal.Value

open Cert.Kernel14Ideal Cert.Kernel14Ideal.Gen
variable (m : (ℓ : Loc nD τ sig) → Buf (Elt Ideal) ℓ) (c : Dev nD)

/-- The reference's product, cut to this projection's columns, over the kernel's arguments. -/
abbrev PROJ (h : FVec Ideal Cert.Reference14Ideal.S32x4096 .bf16) (w : FVec Ideal Cert.Reference14Ideal.S2x4096x18560 .f32) :
    FVec Ideal Cert.Reference14Ideal.S32x10240 .f32 :=
  extractStridedSlice Cert.Reference14Ideal.S32x10240 ![0, 8192] (Host.dotGeneral (φ₂ := .f32)
    Cert.Reference14Ideal.dot_S32x4096_S4096x18560_S32x18560_1_0_0_1_n_n none (extf .f32 h Cert.Reference14Ideal.Gen.bitsLt_bf16_f32)
    (shapeCast _ (extractStridedSlice Cert.Reference14Ideal.S1x4096x18560 ![0, 0, 0] w
      Cert.Reference14Ideal.Gen.slices_S2x4096x18560_S1x4096x18560_0_0_0) Cert.Reference14Ideal.Gen.shapeCasts_S1x4096x18560_S4096x18560))
    Cert.Reference14Ideal.Gen.slices_S32x18560_S32x10240_0_8192

theorem idx : ∀ t : Fin cfg0.N, win0_0.index t = ![0, 0]
    ∧ win0_1.index t = ![0, 0, 8 + t.val]
    ∧ win0_2.index t = ![0, t.val] :=
  (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (X0_1 m c t : Vec Ideal S1x4096x1024 .bf16)
    = fun j => m ((c.tc : Thread nD τ).loc main_arg1) (ix3 0 (j 1) ⟨(8 + t.val) * 1024 + (j 2).val, by have : (j 2).val < 1024 := (j 2).isLt; have : t.val < _ := lt_of_lt_of_eq t.isLt Gen.N_0; omega⟩) := by
  funext j
  idx_vars j
  unfold X0_1 Pipeline.Window.fill
  rw [dif_pos (moved0_1 t _), ← weights m c]
  blk_ext [iblk, idx t]

/-- The kernel's result array. -/
theorem final : (dats m 0 c).arrAt 2 (cfgs 0).N
    = PROJ (m ((c.tc : Thread nD τ).loc main_arg0)) (m ((c.tc : Thread nD τ).loc main_arg1)) := by
  refine (dats m 0 c).arrAt_eq_of_covers 2 _ (by decide +kernel) fun t hf' y => ?_
  blk_simp
  rw [after0_2]
  unfold outsAt0
  frame_out
  pointwise [k0_pay1, PROJ]
  rw [block m c t]
  blk_point [iblk, V, idx t]

end Cert.Kernel14Ideal.Value

end
-- ==== Proof.SsdDt.lean ====
/- The dt projection of the state-space mixer: the kernel's result array is the reference's product, cut to its columns. -/
module

public import proofs.«01_k».proof.Proof.Gen.Kernel17Ideal.Value
public import proofs.«01_k».proof.Proof.Gen.Reference17Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel17Ideal.Value

open Cert.Kernel17Ideal Cert.Kernel17Ideal.Gen
variable (m : (ℓ : Loc nD τ sig) → Buf (Elt Ideal) ℓ) (c : Dev nD)

/-- The reference's product, cut to this projection's columns, over the kernel's arguments. -/
abbrev PROJ (h : FVec Ideal Cert.Reference17Ideal.S8192x4096 .bf16) (w : FVec Ideal Cert.Reference17Ideal.S2x4096x18560 .f32) :
    FVec Ideal Cert.Reference17Ideal.S8192x128 .f32 :=
  extractStridedSlice Cert.Reference17Ideal.S8192x128 ![0, 18432] (Host.dotGeneral (φ₂ := .f32)
    Cert.Reference17Ideal.dot_S8192x4096_S4096x18560_S8192x18560_1_0_0_1_n_n none (extf .f32 h Cert.Reference17Ideal.Gen.bitsLt_bf16_f32)
    (shapeCast _ (extractStridedSlice Cert.Reference17Ideal.S1x4096x18560 ![0, 0, 0] w
      Cert.Reference17Ideal.Gen.slices_S2x4096x18560_S1x4096x18560_0_0_0) Cert.Reference17Ideal.Gen.shapeCasts_S1x4096x18560_S4096x18560))
    Cert.Reference17Ideal.Gen.slices_S8192x18560_S8192x128_0_18432

theorem idx : ∀ t : Fin cfg0.N, win0_0.index t = ![t.val, 0]
    ∧ win0_1.index t = ![0, 0, 144]
    ∧ win0_2.index t = ![t.val, 0] :=
  (by decide +kernel : ∀ t : Fin grid0.N, _)

/-- The weights as the call finds them: the argument, its format changed. -/
theorem weights : V m c main_v0 = m ((c.tc : Thread nD τ).loc main_arg1) := by
  unfold V
  after_results <;> rfl

/-- A weight block holds the weights of its columns. -/
theorem block (t : Fin cfg0.N) : (iblk m c 1 t : Vec Ideal S1x4096x128 .bf16)
    = fun j => m ((c.tc : Thread nD τ).loc main_arg1) (ix3 0 (j 1) ⟨(144) * 128 + (j 2).val, by have : (j 2).val < 128 := (j 2).isLt; have : t.val < _ := lt_of_lt_of_eq t.isLt Gen.N_0; omega⟩) := by
  funext j
  idx_vars j
  rw [← weights m c]
  blk_ext [iblk, idx t]

/-- The kernel's result array. -/
theorem final : (dats m 0 c).arrAt 2 (cfgs 0).N
    = PROJ (m ((c.tc : Thread nD τ).loc main_arg0)) (m ((c.tc : Thread nD τ).loc main_arg1)) := by
  refine (dats m 0 c).arrAt_eq_of_covers 2 _ (by decide +kernel) fun t hf' y => ?_
  blk_simp
  rw [after0_2]
  frame_out
  pointwise [k0_pay1, PROJ]
  rw [block m c t]
  blk_point [iblk, V, idx t]

end Cert.Kernel17Ideal.Value

end
-- ==== Proof.Norm.lean ====
/- The last norm of the prompt: the kernel's result array is the reference's. -/
module

public import proofs.«01_k».proof.Proof.Gen.Kernel15Ideal.Value
public import proofs.«01_k».proof.Proof.Gen.Reference15Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel15Ideal.Value

open Cert.Kernel15Ideal Cert.Kernel15Ideal.Gen
variable (m : (ℓ : Loc nD τ sig) → Buf (Elt Ideal) ℓ) (c : Dev nD)

/-- The reference's term over the kernel's arguments. -/
abbrev REF (x : FVec Ideal Cert.Reference15Ideal.S8192x4096 .f32) (g : FVec Ideal Cert.Reference15Ideal.S4096 .f32) : FVec Ideal Cert.Reference15Ideal.S8192x4096 .f32 :=
  mulf (mulf x (broadcastInDim Cert.Reference15Ideal.S8192x4096 ![0, 1] Cert.Reference15Ideal.Gen.bcast_S8192x1_S8192x4096_0_1 (Host.rsqrt (addf (Host.divf
      (broadcastInDim Cert.Reference15Ideal.S8192x1 ![0] Cert.Reference15Ideal.Gen.bcast_S8192_S8192x1_0 (Host.reduceAdd (mulf x x) (constant Cert.Reference15Ideal.S_ .f32 0x00000000#32)
        Cert.Reference15Ideal.Gen.reducesTo_S8192x4096_S8192_d1 Cert.Reference15Ideal.Gen.h_S_))
      (broadcastInDim Cert.Reference15Ideal.S8192x1 ![] Cert.Reference15Ideal.Gen.bcast_S_S8192x1 (constant Cert.Reference15Ideal.S_ .f32 0x45800000#32)))
    (broadcastInDim Cert.Reference15Ideal.S8192x1 ![] Cert.Reference15Ideal.Gen.bcast_S_S8192x1 (constant Cert.Reference15Ideal.S_ .f32 0x358637BD#32))))))
    (broadcastInDim Cert.Reference15Ideal.S8192x4096 ![0, 1] Cert.Reference15Ideal.Gen.bcast_S1x4096_S8192x4096_0_1
      (broadcastInDim Cert.Reference15Ideal.S1x4096 ![1] Cert.Reference15Ideal.Gen.bcast_S4096_S1x4096_1 g))

theorem idx : ∀ t : Fin cfg0.N, win0_0.index t = ![t.val, 0]
    ∧ win0_1.index t = ![0, 0]
    ∧ win0_2.index t = ![t.val, 0] :=
  (by decide +kernel : ∀ t : Fin grid0.N, _)

/-- The scale's block at every point: the argument as one row. -/
theorem gain (t : Fin cfg0.N) : (iblk m c 1 t : Vec Ideal S1x4096 .f32) = fun j => m ((c.tc : Thread nD τ).loc main_arg1) (ix1 (j 1)) := by
  have e : V m c main_v0 = fun j => m ((c.tc : Thread nD τ).loc main_arg1) (ix1 (j 1)) := by
    unfold V
    after_results
    funext j
    idx_vars j
    pointwise
  funext j
  idx_vars j
  refine Eq.trans ?_ (congrFun e (ix2 0 j1))
  blk_ext [iblk, idx t]

/-- The kernel's result array. -/
theorem final : (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf' y => ?_
  blk_simp
  rw [after0_2]
  frame_out
  pointwise [k0_pay1, REF]
  rw [gain m c t]
  blk_point [iblk, V, idx t]

end Cert.Kernel15Ideal.Value

end
-- ==== Proof.NormS.lean ====
/- The last norm of the sampled batch: the kernel's result array is the reference's. -/
module

public import proofs.«01_k».proof.Proof.Gen.Kernel16Ideal.Value
public import proofs.«01_k».proof.Proof.Gen.Reference16Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel16Ideal.Value

open Cert.Kernel16Ideal Cert.Kernel16Ideal.Gen
variable (m : (ℓ : Loc nD τ sig) → Buf (Elt Ideal) ℓ) (c : Dev nD)

/-- The reference's term over the kernel's arguments. -/
abbrev REF (x : FVec Ideal Cert.Reference16Ideal.S32x4096 .f32) (g : FVec Ideal Cert.Reference16Ideal.S4096 .f32) : FVec Ideal Cert.Reference16Ideal.S32x4096 .f32 :=
  mulf (mulf x (broadcastInDim Cert.Reference16Ideal.S32x4096 ![0, 1] Cert.Reference16Ideal.Gen.bcast_S32x1_S32x4096_0_1 (Host.rsqrt (addf (Host.divf
      (broadcastInDim Cert.Reference16Ideal.S32x1 ![0] Cert.Reference16Ideal.Gen.bcast_S32_S32x1_0 (Host.reduceAdd (mulf x x) (constant Cert.Reference16Ideal.S_ .f32 0x00000000#32)
        Cert.Reference16Ideal.Gen.reducesTo_S32x4096_S32_d1 Cert.Reference16Ideal.Gen.h_S_))
      (broadcastInDim Cert.Reference16Ideal.S32x1 ![] Cert.Reference16Ideal.Gen.bcast_S_S32x1 (constant Cert.Reference16Ideal.S_ .f32 0x45800000#32)))
    (broadcastInDim Cert.Reference16Ideal.S32x1 ![] Cert.Reference16Ideal.Gen.bcast_S_S32x1 (constant Cert.Reference16Ideal.S_ .f32 0x358637BD#32))))))
    (broadcastInDim Cert.Reference16Ideal.S32x4096 ![0, 1] Cert.Reference16Ideal.Gen.bcast_S1x4096_S32x4096_0_1
      (broadcastInDim Cert.Reference16Ideal.S1x4096 ![1] Cert.Reference16Ideal.Gen.bcast_S4096_S1x4096_1 g))

theorem idx : ∀ t : Fin cfg0.N, win0_0.index t = ![0, 0]
    ∧ win0_1.index t = ![0, 0]
    ∧ win0_2.index t = ![0, 0] :=
  (by decide +kernel : ∀ t : Fin grid0.N, _)

/-- The scale's block at every point: the argument as one row. -/
theorem gain (t : Fin cfg0.N) : (iblk m c 1 t : Vec Ideal S1x4096 .f32) = fun j => m ((c.tc : Thread nD τ).loc main_arg1) (ix1 (j 1)) := by
  have e : V m c main_v0 = fun j => m ((c.tc : Thread nD τ).loc main_arg1) (ix1 (j 1)) := by
    unfold V
    after_results
    funext j
    idx_vars j
    pointwise
  funext j
  idx_vars j
  refine Eq.trans ?_ (congrFun e (ix2 0 j1))
  blk_ext [iblk, idx t]

/-- The kernel's result array. -/
theorem final : (dats m 0 c).arrAt 2 (cfgs 0).N = REF (m ((c.tc : Thread nD τ).loc main_arg0)) (m ((c.tc : Thread nD τ).loc main_arg1)) := by
  refine (dats m 0 c).arrAt_eq_of_covers 2 _ (by decide +kernel) fun t hf' y => ?_
  blk_simp
  rw [after0_2]
  frame_out
  pointwise [k0_pay1, REF]
  rw [gain m c t]
  blk_point [iblk, V, idx t]

end Cert.Kernel16Ideal.Value

end
-- ==== Proof.NormMod.lean ====
/- The norm and modulation before a mixer: the kernel's result array is the reference's. -/
module

public import proofs.«01_k».proof.Proof.Gen.Kernel18Ideal.Value
public import proofs.«01_k».proof.Proof.Gen.Reference18Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel18Ideal.Value

open Cert.Kernel18Ideal Cert.Kernel18Ideal.Gen
variable (m : (ℓ : Loc nD τ sig) → Buf (Elt Ideal) ℓ) (c : Dev nD)

/-- The reference's term over the kernel's arguments. -/
abbrev REF (x : FVec Ideal Cert.Reference18Ideal.S8192x4096 .f32) (g : FVec Ideal Cert.Reference18Ideal.S4x4096 .f32) (sc sh : FVec Ideal Cert.Reference18Ideal.S4x4096 .f32) : FVec Ideal Cert.Reference18Ideal.S8192x4096 .bf16 :=
  truncf .bf16 (shapeCast _ (addf (mulf (mulf (mulf (shapeCast _ x Cert.Reference18Ideal.Gen.shapeCasts_S8192x4096_S4x2048x4096)
      (broadcastInDim Cert.Reference18Ideal.S4x2048x4096 ![0, 1, 2] Cert.Reference18Ideal.Gen.bcast_S4x2048x1_S4x2048x4096_0_1_2 (Host.rsqrt (addf (Host.divf
        (broadcastInDim Cert.Reference18Ideal.S4x2048x1 ![0, 1] Cert.Reference18Ideal.Gen.bcast_S4x2048_S4x2048x1_0_1 (Host.reduceAdd
          (mulf (shapeCast _ x Cert.Reference18Ideal.Gen.shapeCasts_S8192x4096_S4x2048x4096) (shapeCast _ x Cert.Reference18Ideal.Gen.shapeCasts_S8192x4096_S4x2048x4096))
          (constant Cert.Reference18Ideal.S_ .f32 0x00000000#32) Cert.Reference18Ideal.Gen.reducesTo_S4x2048x4096_S4x2048_d2 Cert.Reference18Ideal.Gen.h_S_))
        (broadcastInDim Cert.Reference18Ideal.S4x2048x1 ![] Cert.Reference18Ideal.Gen.bcast_S_S4x2048x1 (constant Cert.Reference18Ideal.S_ .f32 0x45800000#32)))
        (broadcastInDim Cert.Reference18Ideal.S4x2048x1 ![] Cert.Reference18Ideal.Gen.bcast_S_S4x2048x1 (constant Cert.Reference18Ideal.S_ .f32 0x358637BD#32))))))
      (broadcastInDim Cert.Reference18Ideal.S4x2048x4096 ![0, 1, 2] Cert.Reference18Ideal.Gen.bcast_S1x1x4096_S4x2048x4096_0_1_2 (broadcastInDim Cert.Reference18Ideal.S1x1x4096 ![2] Cert.Reference18Ideal.Gen.bcast_S4096_S1x1x4096_2
        (shapeCast _ (extractStridedSlice Cert.Reference18Ideal.S1x4096 ![0, 0] g Cert.Reference18Ideal.Gen.slices_S4x4096_S1x4096_0_0) Cert.Reference18Ideal.Gen.shapeCasts_S1x4096_S4096))))
      (broadcastInDim Cert.Reference18Ideal.S4x2048x4096 ![0, 1, 2] Cert.Reference18Ideal.Gen.bcast_S4x1x4096_S4x2048x4096_0_1_2 (addf (broadcastInDim Cert.Reference18Ideal.S4x1x4096 ![] Cert.Reference18Ideal.Gen.bcast_S_S4x1x4096
        (constant Cert.Reference18Ideal.S_ .f32 0x3F800000#32)) (broadcastInDim Cert.Reference18Ideal.S4x1x4096 ![0, 2] Cert.Reference18Ideal.Gen.bcast_S4x4096_S4x1x4096_0_2 sc))))
      (broadcastInDim Cert.Reference18Ideal.S4x2048x4096 ![0, 1, 2] Cert.Reference18Ideal.Gen.bcast_S4x1x4096_S4x2048x4096_0_1_2 (broadcastInDim Cert.Reference18Ideal.S4x1x4096 ![0, 2]
        Cert.Reference18Ideal.Gen.bcast_S4x4096_S4x1x4096_0_2 sh))) Cert.Reference18Ideal.Gen.shapeCasts_S4x2048x4096_S8192x4096) Cert.Reference18Ideal.Gen.bitsLt_bf16_f32

theorem idx : ∀ t : Fin cfg0.N, win0_0.index t = ![t.val, 0]
    ∧ win0_1.index t = ![0, 0]
    ∧ win0_2.index t = ![t.val / 8, 0, 0]
    ∧ win0_3.index t = ![t.val / 8, 0, 0]
    ∧ win0_4.index t = ![t.val, 0] :=
  (by decide +kernel : ∀ t : Fin grid0.N, _)

/-- The scale's block at every point: the first layer's row of the argument. -/
theorem gain (t : Fin cfg0.N) : (iblk m c 1 t : Vec Ideal S1x4096 .f32) = fun j => m ((c.tc : Thread nD τ).loc main_arg1) (ix2 0 (j 1)) := by
  have e : V m c main_v4 = fun j => m ((c.tc : Thread nD τ).loc main_arg1) (ix2 0 (j 1)) := by
    unfold V
    after_results
    funext j
    idx_vars j
    pointwise
  funext j
  idx_vars j
  refine Eq.trans ?_ (congrFun e (ix2 0 j1))
  blk_ext [iblk, idx t]

/-- A block of the modulation's scale holds the row of its sequence. -/
theorem scales (t : Fin cfg0.N) : (iblk m c 2 t : Vec Ideal S1x1x4096 .f32)
    = fun j => m ((c.tc : Thread nD τ).loc main_arg2) (ix2 ⟨t.val / 8, by have : t.val < 32 := lt_of_lt_of_eq t.isLt Gen.N_0; omega⟩ (j 2)) := by
  funext j
  idx_vars j
  blk_ext! [iblk, V, idx t]

/-- A block of the modulation's shift holds the row of its sequence. -/
theorem shifts (t : Fin cfg0.N) : (iblk m c 3 t : Vec Ideal S1x1x4096 .f32)
    = fun j => m ((c.tc : Thread nD τ).loc main_arg3) (ix2 ⟨t.val / 8, by have : t.val < 32 := lt_of_lt_of_eq t.isLt Gen.N_0; omega⟩ (j 2)) := by
  funext j
  idx_vars j
  blk_ext! [iblk, V, idx t]

/-- The kernel's result array. -/
theorem final : (dats m 0 c).arrAt 4 (cfgs 0).N = REF (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf' y => ?_
  blk_simp
  rw [after0_4]
  frame_out
  pointwise [k0_pay1, REF]
  rw [gain m c t, scales m c t, shifts m c t]
  blk_point [iblk, V, idx t]

end Cert.Kernel18Ideal.Value

end
-- ==== Proof.NormModS.lean ====
/- The norm and modulation of the sampled batch: the kernel's result array is the reference's. -/
module

public import proofs.«01_k».proof.Proof.Gen.Kernel19Ideal.Value
public import proofs.«01_k».proof.Proof.Gen.Reference19Ideal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel19Ideal.Value

open Cert.Kernel19Ideal Cert.Kernel19Ideal.Gen
variable (m : (ℓ : Loc nD τ sig) → Buf (Elt Ideal) ℓ) (c : Dev nD)

/-- The reference's term over the kernel's arguments. -/
abbrev REF (x : FVec Ideal Cert.Reference19Ideal.S32x4096 .f32) (g : FVec Ideal Cert.Reference19Ideal.S4x4096 .f32) (sc sh : FVec Ideal Cert.Reference19Ideal.S8x4096 .f32) : FVec Ideal Cert.Reference19Ideal.S32x4096 .bf16 :=
  truncf .bf16 (shapeCast _ (addf (mulf (mulf (mulf (shapeCast _ x Cert.Reference19Ideal.Gen.shapeCasts_S32x4096_S8x4x4096)
      (broadcastInDim Cert.Reference19Ideal.S8x4x4096 ![0, 1, 2] Cert.Reference19Ideal.Gen.bcast_S8x4x1_S8x4x4096_0_1_2 (Host.rsqrt (addf (Host.divf
        (broadcastInDim Cert.Reference19Ideal.S8x4x1 ![0, 1] Cert.Reference19Ideal.Gen.bcast_S8x4_S8x4x1_0_1 (Host.reduceAdd
          (mulf (shapeCast _ x Cert.Reference19Ideal.Gen.shapeCasts_S32x4096_S8x4x4096) (shapeCast _ x Cert.Reference19Ideal.Gen.shapeCasts_S32x4096_S8x4x4096))
          (constant Cert.Reference19Ideal.S_ .f32 0x00000000#32) Cert.Reference19Ideal.Gen.reducesTo_S8x4x4096_S8x4_d2 Cert.Reference19Ideal.Gen.h_S_))
        (broadcastInDim Cert.Reference19Ideal.S8x4x1 ![] Cert.Reference19Ideal.Gen.bcast_S_S8x4x1 (constant Cert.Reference19Ideal.S_ .f32 0x45800000#32)))
        (broadcastInDim Cert.Reference19Ideal.S8x4x1 ![] Cert.Reference19Ideal.Gen.bcast_S_S8x4x1 (constant Cert.Reference19Ideal.S_ .f32 0x358637BD#32))))))
      (broadcastInDim Cert.Reference19Ideal.S8x4x4096 ![0, 1, 2] Cert.Reference19Ideal.Gen.bcast_S1x1x4096_S8x4x4096_0_1_2 (broadcastInDim Cert.Reference19Ideal.S1x1x4096 ![2] Cert.Reference19Ideal.Gen.bcast_S4096_S1x1x4096_2
        (shapeCast _ (extractStridedSlice Cert.Reference19Ideal.S1x4096 ![0, 0] g Cert.Reference19Ideal.Gen.slices_S4x4096_S1x4096_0_0) Cert.Reference19Ideal.Gen.shapeCasts_S1x4096_S4096))))
      (broadcastInDim Cert.Reference19Ideal.S8x4x4096 ![0, 1, 2] Cert.Reference19Ideal.Gen.bcast_S8x1x4096_S8x4x4096_0_1_2 (addf (broadcastInDim Cert.Reference19Ideal.S8x1x4096 ![] Cert.Reference19Ideal.Gen.bcast_S_S8x1x4096
        (constant Cert.Reference19Ideal.S_ .f32 0x3F800000#32)) (broadcastInDim Cert.Reference19Ideal.S8x1x4096 ![0, 2] Cert.Reference19Ideal.Gen.bcast_S8x4096_S8x1x4096_0_2 sc))))
      (broadcastInDim Cert.Reference19Ideal.S8x4x4096 ![0, 1, 2] Cert.Reference19Ideal.Gen.bcast_S8x1x4096_S8x4x4096_0_1_2 (broadcastInDim Cert.Reference19Ideal.S8x1x4096 ![0, 2]
        Cert.Reference19Ideal.Gen.bcast_S8x4096_S8x1x4096_0_2 sh))) Cert.Reference19Ideal.Gen.shapeCasts_S8x4x4096_S32x4096) Cert.Reference19Ideal.Gen.bitsLt_bf16_f32

theorem idx : ∀ t : Fin cfg0.N, win0_0.index t = ![0, 0]
    ∧ win0_1.index t = ![0, 0]
    ∧ win0_2.index t = ![0, 0]
    ∧ win0_3.index t = ![0, 0]
    ∧ win0_4.index t = ![0, 0] :=
  (by decide +kernel : ∀ t : Fin grid0.N, _)

/-- The scale's block at every point: the first layer's row of the argument. -/
theorem gain (t : Fin cfg0.N) : (iblk m c 1 t : Vec Ideal S1x4096 .f32) = fun j => m ((c.tc : Thread nD τ).loc main_arg1) (ix2 0 (j 1)) := by
  have e : V m c main_v6 = fun j => m ((c.tc : Thread nD τ).loc main_arg1) (ix2 0 (j 1)) := by
    unfold V
    after_results
    funext j
    idx_vars j
    pointwise
  funext j
  idx_vars j
  refine Eq.trans ?_ (congrFun e (ix2 0 j1))
  blk_ext [iblk, idx t]

/-- The modulation's scales as the call finds them: each sequence's row, four times. -/
theorem scales (t : Fin cfg0.N) : (iblk m c 2 t : Vec Ideal S32x4096 .f32)
    = fun j => m ((c.tc : Thread nD τ).loc main_arg2) (ix2 ⟨(j 0).val / 4, by have : (j 0).val < 32 := (j 0).isLt; omega⟩ (j 1)) := by
  have e : V m c main_v3 = fun j => m ((c.tc : Thread nD τ).loc main_arg2) (ix2 ⟨(j 0).val / 4, by have : (j 0).val < 32 := (j 0).isLt; omega⟩ (j 1)) := by
    unfold V
    after_results
    funext j
    idx_vars j
    pointwise
  funext j
  idx_vars j
  refine Eq.trans ?_ (congrFun e (ix2 j0 j1))
  blk_ext [iblk, idx t]

/-- The modulation's shifts as the call finds them: each sequence's row, four times. -/
theorem shifts (t : Fin cfg0.N) : (iblk m c 3 t : Vec Ideal S32x4096 .f32)
    = fun j => m ((c.tc : Thread nD τ).loc main_arg3) (ix2 ⟨(j 0).val / 4, by have : (j 0).val < 32 := (j 0).isLt; omega⟩ (j 1)) := by
  have e : V m c main_v5 = fun j => m ((c.tc : Thread nD τ).loc main_arg3) (ix2 ⟨(j 0).val / 4, by have : (j 0).val < 32 := (j 0).isLt; omega⟩ (j 1)) := by
    unfold V
    after_results
    funext j
    idx_vars j
    pointwise
  funext j
  idx_vars j
  refine Eq.trans ?_ (congrFun e (ix2 j0 j1))
  blk_ext [iblk, idx t]

/-- The kernel's result array. -/
theorem final : (dats m 0 c).arrAt 4 (cfgs 0).N = REF (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf' y => ?_
  blk_simp
  rw [after0_4]
  frame_out
  pointwise [k0_pay1, REF]
  rw [gain m c t, scales m c t, shifts m c t]
  blk_point [iblk, V, idx t]

end Cert.Kernel19Ideal.Value

end
-- ==== Proof.AdaMod.lean ====
/- The modulation of all layers: the kernel's result array is the reference's. -/
module

public import proofs.«01_k».proof.Proof.Gen.Kernel20Ideal.Value
public import proofs.«01_k».proof.Proof.Gen.Reference20Ideal.Run
public import proofs.«01_k».proof.Proof.Tile
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel20Ideal.Value

open Cert.Kernel20Ideal Cert.Kernel20Ideal.Gen
variable (m : (ℓ : Loc nD τ sig) → Buf (Elt Ideal) ℓ) (c : Dev nD)

/-- The reference's term over the kernel's arguments. -/
abbrev REF (x : FVec Ideal Cert.Reference20Ideal.S16x4096 .f32) (w : FVec Ideal Cert.Reference20Ideal.S4x4096x12288 .f32) (b : FVec Ideal Cert.Reference20Ideal.S4x12288 .f32) : FVec Ideal Cert.Reference20Ideal.S4x16x12288 .f32 :=
  addf (transpose Cert.Reference20Ideal.S4x16x12288 [0, 2, 1] (Host.dotGeneral (φ₂ := .f32) Cert.Reference20Ideal.dot_S4x4096x12288_S16x4096_S4x12288x16_1_1_02_0_n_n none w
      (mulf x (Host.divf (broadcastInDim Cert.Reference20Ideal.S16x4096 ![] Cert.Reference20Ideal.Gen.bcast_S_S16x4096 (constant Cert.Reference20Ideal.S_ .f32 0x3F800000#32))
        (addf (broadcastInDim Cert.Reference20Ideal.S16x4096 ![] Cert.Reference20Ideal.Gen.bcast_S_S16x4096 (constant Cert.Reference20Ideal.S_ .f32 0x3F800000#32)) (Host.exp (Host.negf x))))))
      Cert.Reference20Ideal.Gen.transposes_S4x12288x16_S4x16x12288_0_2_1)
    (broadcastInDim Cert.Reference20Ideal.S4x16x12288 ![0, 1, 2] Cert.Reference20Ideal.Gen.bcast_S4x1x12288_S4x16x12288_0_1_2 (broadcastInDim Cert.Reference20Ideal.S4x1x12288 ![0, 2] Cert.Reference20Ideal.Gen.bcast_S4x12288_S4x1x12288_0_2 b))

theorem idx : ∀ t : Fin cfg0.N, win0_0.index t = ![0, 0]
    ∧ win0_1.index t = ![t.val / 24, 0, t.val % 24]
    ∧ win0_2.index t = ![t.val / 24, 0, t.val % 24]
    ∧ win0_3.index t = ![t.val / 24, 0, t.val % 24] :=
  (by decide +kernel : ∀ t : Fin grid0.N, _)

/-- A block of the bias holds its layer's columns. -/
theorem bias (t : Fin cfg0.N) : (iblk m c 2 t : Vec Ideal S1x1x512 .f32)
    = fun j => m ((c.tc : Thread nD τ).loc main_arg2) (ix2 ⟨t.val / 24, by have : t.val < 96 := lt_of_lt_of_eq t.isLt Gen.N_0; omega⟩
        ⟨t.val % 24 * 512 + (j 2).val, by have : (j 2).val < 512 := (j 2).isLt; omega⟩) := by
  funext j
  idx_vars j
  blk_ext! [iblk, V, idx t]

/-- The kernel's result array. -/
theorem final : (dats m 0 c).arrAt 3 (cfgs 0).N = REF (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf' y => ?_
  blk_simp
  rw [after0_3]
  frame_out
  pointwise [k0_pay1, REF]
  rw [bias m c t, show (Named.named κ "neg_log2e" 3216550459#32 : Ideal .f32) = ((-Cert.KernelIdeal.Value.ln2i : ℝ) : EReal) from rfl]
  have e : ∀ z : EReal, FloatOps.exp2 (F := Ideal) (φ := .f32) (z * ((-Cert.KernelIdeal.Value.ln2i : ℝ) : EReal)) = Ideal.exp (-z) :=
    Cert.KernelIdeal.Value.exp2_neg
  simp only [e]
  blk_point [iblk, V, idx t]

end Cert.Kernel20Ideal.Value

end
-- ==== Proof.CumSum.lean ====
/- The running sums of the log-forget gates: the kernel adds up 128 rows at a time and carries the last row on, the reference sums over a window. -/
module

public import proofs.«01_k».proof.Proof.Gen.Kernel21Ideal.Value
public import proofs.«01_k».proof.Proof.Gen.Reference21Ideal.Run
public import Idealize.ShloMosaic.Lib.WordCmp
public import Idealize.ShloMosaic.Lib.WritesUnit
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel21Ideal.Value

open Cert.Kernel21Ideal Cert.Kernel21Ideal.Gen
variable (m : (ℓ : Loc nD τ sig) → Buf (Elt Ideal) ℓ) (c : Dev nD)

/-- The sum of the first `n` rows of a sequence, at one head. -/
def pre (x : FVec Ideal S4x2048x32 .f32) (a : Fin 4) (d : Fin 32) (n : ℕ) : EReal :=
  ∑ s ∈ Finset.range n, if h : s < 2048 then x (ix3 a ⟨s, h⟩ d) else 0

/-- A sum over the rows of a tile up to one of them. -/
theorem upto (f : Fin 128 → EReal) (g : ℕ → EReal) (hg : ∀ s : Fin 128, g s.val = f s) (r : Fin 128) :
    ∑ s : Fin 128, (if s.val ≤ r.val then f s else 0) = ∑ s ∈ Finset.range (r.val + 1), g s := by
  have hr := r.isLt
  simp only [← hg]
  rw [Fin.sum_univ_eq_sum_range (fun s => if s ≤ r.val then g s else 0) 128, ← Finset.sum_filter]
  congr 1
  ext s
  simp only [Finset.mem_filter, Finset.mem_range]
  omega

/-- A tile's sums over the row carried to it. -/
theorem sums_at (v : Vec Ideal S1x128x32 .f32) (p : Vec Ideal S1x32 .f32) (r : Fin 128) (d : Fin 32) :
    k0_pay2 v p (ix2 r d) = ∑ s : Fin 128, (if s.val ≤ r.val then v (ix3 0 s d) else 0) + p (ix2 0 d) := by
  pointwise [k0_pay2]
  refine congrArg (· + p (ix2 0 d)) (Finset.sum_congr rfl fun s _ => ?_)
  have hr := r.isLt
  have hs := s.isLt
  show (((BitVec.setWidth 32 (IntOp.cmpi CmpIPredicate.sge (BitVec.ofNat 32 r.val) (BitVec.ofNat 32 s.val))).toInt : ℝ) : EReal) * v (ix3 0 s d) = _
  by_cases h : s.val ≤ r.val
  · rw [if_pos h, (WordCmp.cmpi_sge_ofNat_eq_one_iff (by omega) (by omega)).2 h]
    simp
  · rw [if_neg h, (WordCmp.cmpi_sge_ofNat_eq_zero_iff (by omega) (by omega)).2 (by omega)]
    simp

theorem idx : ∀ t : Fin cfg0.N, win0_0.index t = ![t.val / 16, t.val % 16, 0] ∧ win0_1.index t = ![t.val / 16, t.val % 16, 0] :=
  (by decide +kernel : ∀ t : Fin grid0.N, _)

/-- The gates over the call's argument. -/
abbrev X : FVec Ideal S4x2048x32 .f32 := m ((c.tc : Thread nD τ).loc main_arg0)

/-- The sequence of a grid point. -/
abbrev sq (n : ℕ) (hn : n < cfg0.N) : Fin 4 := ⟨n / 16, by have := lt_of_lt_of_eq hn (show cfg0.N = 64 from N_0); omega⟩

/-- The block of a grid point: 128 rows of its sequence. -/
theorem block_at (t : Fin cfg0.N) (s : Fin 128) (d : Fin 32) :
    iblk m c 0 t (ix3 0 s d) = X m c (ix3 (sq t.val t.isLt) ⟨t.val % 16 * 128 + s.val, by omega⟩ d) := by
  blk_ext [iblk, V, idx t]

/-- A tile's sums over the sum of the rows before it. -/
theorem tile_at (t : Fin cfg0.N) (p : Vec Ideal S1x32 .f32) (r : Fin 128) (d : Fin 32)
    (hp : p (ix2 0 d) = pre (X m c) (sq t.val t.isLt) d (t.val % 16 * 128)) :
    k0_pay2 (iblk m c 0 t) p (ix2 r d) = pre (X m c) (sq t.val t.isLt) d (t.val % 16 * 128 + (r.val + 1)) := by
  rw [sums_at, hp]
  unfold pre
  rw [Finset.sum_range_add, add_comm]
  refine congrArg _ (upto _ _ (fun s => ?_) r)
  rw [block_at, dif_pos]

/-- What a tile stores, and what it carries on. -/
theorem store_at (v : Vec Ideal S1x128x32 .f32) (p : Vec Ideal S1x32 .f32) (r : Fin 128) (d : Fin 32) :
    k0_pay3 v p (ix3 0 r d) = k0_pay2 v p (ix2 r d) := by
  pointwise [k0_pay3]

theorem carry_at (v : Vec Ideal S1x128x32 .f32) (p : Vec Ideal S1x32 .f32) (e : Fin 8) (d : Fin 32) :
    k0_pay4 v p (ix2 e d) = k0_pay2 v p (ix2 127 d) := by
  pointwise [k0_pay4]

/-- At a sequence's first tile: from the row of zeros. -/
theorem first_at (t : Fin cfg0.N) (h0 : t.val % 16 = 0) :
    (∀ (r : Fin 128) (d : Fin 32), (outsAt0 m c t.val t.isLt).1 (ix3 0 r d) = pre (X m c) (sq t.val t.isLt) d (t.val % 16 * 128 + (r.val + 1)))
    ∧ ∀ (e : Fin 8) (d : Fin 32), (outsAt0 m c t.val t.isLt).2 (ix2 e d) = pre (X m c) (sq t.val t.isLt) d (t.val % 16 * 128 + 128) := by
  have hz : ∀ d : Fin 32, ((View.whole cc0_scratch0).readCov [⟨Rect.unit ![0, 0] ![8, 32] inb_S8x32_S8x32_0_0, (k0_pay1 : FVec Ideal S8x32 .f32)⟩]
      (Rect.unit ![0, 0] ![1, 32] inb_S8x32_S1x32_0_0).toLoadRect : Vec Ideal S1x32 .f32) (ix2 0 d) = pre (X m c) (sq t.val t.isLt) d (t.val % 16 * 128) := by
    intro d
    rw [h0]
    unfold View.readCov
    rw [View.readAt_apply]
    refine (View.read_writes_cons_unit_of_mem _ _ _ _ _ _ (ix2 0 d) rfl fun a => ?_).trans ?_
    · fin_cases a <;> simp [Rect.unit, ix2]
    · pointwise [k0_pay1]
      simp [pre]
  rw [outsAt0_A m c t h0]
  constructor
  · intro r d
    frame_out
    exact (store_at _ _ _ _).trans (tile_at m c t _ r d (hz d))
  · intro e d
    frame_out
    exact (carry_at _ _ _ _).trans (tile_at m c t _ 127 d (hz d))

/-- After every grid point: the tile's rows hold their running sums, the carried rows the last of them. -/
theorem after_at : ∀ (n : ℕ) (hn : n < cfg0.N),
    (∀ (r : Fin 128) (d : Fin 32), (outsAt0 m c n hn).1 (ix3 0 r d) = pre (X m c) (sq n hn) d (n % 16 * 128 + (r.val + 1)))
    ∧ ∀ (e : Fin 8) (d : Fin 32), (outsAt0 m c n hn).2 (ix2 e d) = pre (X m c) (sq n hn) d (n % 16 * 128 + 128) := by
  intro n
  induction n with
  | zero => exact fun hn => first_at m c ⟨0, hn⟩ (Nat.zero_mod _)
  | succ n ih =>
    intro hn
    by_cases h0 : (n + 1) % 16 = 0
    · exact first_at m c ⟨n + 1, hn⟩ h0
    · have hc : ∀ d : Fin 32, (View.ld (View.read (Elt Ideal) (View.whole cc0_scratch0) ((Memref.isWhole_whole cc0_scratch0).unread (outsAt0 m c n (Nat.lt_of_succ_lt hn)).2)) (Rect.unit ![0, 0] ![1, 32] inb_S8x32_S1x32_0_0) : Vec Ideal S1x32 .f32) (ix2 0 d)
          = pre (X m c) (sq (n + 1) hn) d ((n + 1) % 16 * 128) := by
        intro d
        have e : (outsAt0 m c n (Nat.lt_of_succ_lt hn)).2 (ix2 0 d) = pre (X m c) (sq (n + 1) hn) d ((n + 1) % 16 * 128) := by
          rw [(ih (Nat.lt_of_succ_lt hn)).2 0 d]
          congr 1
          · exact Fin.ext (by show n / 16 = (n + 1) / 16; omega)
          · omega
        rw [show View.read (Elt Ideal) (View.whole cc0_scratch0) ((Memref.isWhole_whole cc0_scratch0).unread (outsAt0 m c n (Nat.lt_of_succ_lt hn)).2) = (outsAt0 m c n (Nat.lt_of_succ_lt hn)).2 from
          Memref.IsWhole.read_unread _ _]
        refine Eq.trans (congrArg (outsAt0 m c n (Nat.lt_of_succ_lt hn)).2 (funext fun a => ?_)) e
        fin_cases a <;> exact Fin.ext (by simp [Rect.unit, ix2])
      rw [outsAt0_B m c ⟨n + 1, hn⟩ h0]
      constructor
      · intro r d
        frame_out
        exact (store_at _ _ _ _).trans (tile_at m c ⟨n + 1, hn⟩ _ r d (hc d))
      · intro e d
        frame_out
        exact (carry_at _ _ _ _).trans (tile_at m c ⟨n + 1, hn⟩ _ 127 d (hc d))

/-- The reference's term over the kernel's argument. -/
abbrev REF (x : FVec Ideal Cert.Reference21Ideal.S4x2048x32 .f32) : FVec Ideal Cert.Reference21Ideal.S4x2048x32 .f32 :=
  Host.reduceWindowAdd ![1, 2048, 1] ![1, 1, 1] ![0, 2047, 0] ![0, 0, 0] x
    (broadcastInDim Cert.Reference21Ideal.S_ ![] Cert.Reference21Ideal.Gen.bcast_S_S_ (constant Cert.Reference21Ideal.S_ .f32 0x00000000#32))
    Cert.Reference21Ideal.Gen.reduceWindows_S4x2048x32_S4x2048x32_w1s1p0_0_w2048s1p2047_0_w1s1p0_0 Cert.Reference21Ideal.Gen.h_S_

/-- Adding up a list from zero is the sum. -/
theorem fold_add {n : ℕ} (f : Fin n → EReal) : (List.finRange n).foldl (fun r k => r + f k) 0 = ∑ k, f k := by
  rw [Fin.sum_univ_def, List.sum_eq_foldl, List.foldl_map]

/-- A window sum from zero, as a sum over the window's positions. -/
theorem windowSum {s t : Shape} (window strides lo hi : Fin s.rank → ℕ) (h : s.ReduceWindows window strides lo hi t) (x : s.Idx → EReal) (j : t.Idx) :
    Ideal.hostReduceWindowAdd window strides lo hi h x 0 j = ∑ k : (⟨s.rank, window⟩ : Shape).Idx,
      if hin : ∀ a, lo a ≤ (j (a.cast h.1.symm)).val * strides a + (k a).val
          ∧ (j (a.cast h.1.symm)).val * strides a + (k a).val - lo a < s.size a then
        x (fun a => ⟨(j (a.cast h.1.symm)).val * strides a + (k a).val - lo a, (hin a).2⟩) else 0 := by
  refine (fold_add _).trans ?_
  refine Eq.trans (Finset.sum_congr rfl fun k _ => ?_) (Equiv.sum_comp (Shape.rowMajor (⟨s.rank, window⟩ : Shape)).symm (fun k : (⟨s.rank, window⟩ : Shape).Idx =>
      if hin : ∀ a, lo a ≤ (j (a.cast h.1.symm)).val * strides a + (k a).val
          ∧ (j (a.cast h.1.symm)).val * strides a + (k a).val - lo a < s.size a then
        x (fun a => ⟨(j (a.cast h.1.symm)).val * strides a + (k a).val - lo a, (hin a).2⟩) else 0))
  dsimp only
  congr

/-- A window that ends at row `r` and reaches before the sequence's start sums the rows up to `r`. -/
theorem window (g : ℕ → EReal) (r : Fin 2048) :
    ∑ s : Fin 2048, (if 2047 ≤ r.val + s.val then g (r.val + s.val - 2047) else 0) = ∑ s ∈ Finset.range (r.val + 1), g s := by
  have hr := r.isLt
  have e : Finset.range 2048 = Finset.range ((2047 - r.val) + (r.val + 1)) := congrArg _ (by omega)
  rw [Fin.sum_univ_eq_sum_range (fun s => if 2047 ≤ r.val + s then g (r.val + s - 2047) else 0) 2048, e, Finset.sum_range_add, Finset.sum_eq_zero, zero_add]
  · refine Finset.sum_congr rfl fun s _ => ?_
    rw [if_pos (by omega)]
    congr 1
    omega
  · intro s hs
    rw [Finset.mem_range] at hs
    rw [if_neg (by omega)]

/-- The reference's running sum. -/
theorem ref_at (x : FVec Ideal Cert.Reference21Ideal.S4x2048x32 .f32) (a : Fin 4) (r : Fin 2048) (d : Fin 32) :
    REF x (ix3 a r d) = pre x a d (r.val + 1) := by
  have z : (broadcastInDim Cert.Reference21Ideal.S_ ![] Cert.Reference21Ideal.Gen.bcast_S_S_ (constant Cert.Reference21Ideal.S_ .f32 0x00000000#32) :
      FVec Ideal Cert.Reference21Ideal.S_ .f32) (Shape.Idx.first Cert.Reference21Ideal.Gen.h_S_) = (0 : EReal) := by
    pointwise
  unfold REF Host.reduceWindowAdd
  rw [z]
  refine (windowSum (s := Cert.Reference21Ideal.S4x2048x32) _ _ _ _ _ x _).trans ?_
  refine (sum_idx3 (n0 := 1) (n1 := 2048) (n2 := 1) _).trans ?_
  rw [Fin.sum_univ_one]
  simp only [Fin.sum_univ_one]
  refine Eq.trans (Finset.sum_congr rfl fun s _ => ?_) (window (fun n => if h : n < 2048 then x (ix3 a ⟨n, h⟩ d) else 0) r)
  have hr := r.isLt
  have hs := s.isLt
  have ha := a.isLt
  have hd := d.isLt
  by_cases hw : 2047 ≤ r.val + s.val
  · rw [if_pos hw, dif_pos (show r.val + s.val - 2047 < 2048 by omega), dif_pos]
    · congr 1
      funext b
      fin_cases b <;> exact Fin.ext (by simp [ix3])
    · intro b
      fin_cases b <;> simp [ix3] <;> omega
  · rw [if_neg hw, dif_neg]
    intro hin
    have := (hin 1).1
    simp [ix3] at this
    omega

/-- The running sums. -/
def SUMS (x : FVec Ideal S4x2048x32 .f32) : FVec Ideal S4x2048x32 .f32 := fun i => pre x (i 0) (i 2) ((i 1).val + 1)

theorem ref_eq (x : FVec Ideal S4x2048x32 .f32) : REF x = SUMS x := by
  funext i
  idx_vars i
  exact ref_at ..

theorem sums_emb (x : FVec Ideal S4x2048x32 .f32) (i : S4x2048x32.Idx) (a : Fin 4) (n : ℕ) (d : Fin 32)
    (h0 : (i 0).val = a.val) (h1 : (i 1).val + 1 = n) (h2 : (i 2).val = d.val) : pre x a d n = SUMS x i := by
  subst h1
  obtain rfl : i 0 = a := Fin.ext h0
  obtain rfl : i 2 = d := Fin.ext h2
  rfl

theorem array : (dats m 0 c).arrAt 1 (cfgs 0).N = SUMS (X m c) := by
  refine (dats m 0 c).arrAt_eq_of_covers 1 _ (by decide +kernel) fun t hf' y => ?_
  blk_simp
  rw [after0_1]
  idx_vars y
  have h0 : y0 = 0 := Subsingleton.elim _ _
  subst h0
  refine ((after_at m c t.val t.isLt).1 y1 y2).trans (sums_emb _ _ _ _ _ ?_ ?_ ?_) <;> blk_simp [idx t]
  · simp
  · exact Nat.add_assoc ..

/-- The kernel's result array. -/
theorem final : (dats m 0 c).arrAt 1 (cfgs 0).N = REF (m ((c.tc : Thread nD τ).loc main_arg0)) :=
  (array m c).trans (ref_eq _).symm

end Cert.Kernel21Ideal.Value

end
-- ==== Proof.ConvS.lean ====
/- The sampled batch's convolved inputs: the kernel's shifted tiles are the reference's shifted sequences. -/
module

public import proofs.«01_k».proof.Proof.Gen.Kernel22Ideal.Value
public import proofs.«01_k».proof.Proof.Gen.Reference22Ideal.Run
public import proofs.«01_k».proof.Proof.Conv
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel22Ideal.Value

open Cert.Kernel22Ideal Cert.Kernel22Ideal.Gen

/-- A tile moved down by `s` rows, its first rows out of the eight before it. -/
abbrev shifted (v : FVec Ideal S128x2048 .f32) (p : FVec Ideal S8x2048 .f32) (s : BitVec 32) : FVec Ideal S128x2048 .f32 :=
  concatenate S128x2048 0 [⟨S8x2048, select (cmpi .slt (iota .tc S8x2048 32 [0] iota_S8x2048_d0_w32) (broadcast S8x2048 s))
      (dynamicRotate 0 s none p rotates_S8x2048_d0)
      (extractStridedSlice S8x2048 ![0, 0] (dynamicRotate 0 s none v rotates_S128x2048_d0) slices_S128x2048_o0_0_S8x2048)⟩,
    ⟨S120x2048, extractStridedSlice S120x2048 ![8, 0] (dynamicRotate 0 s none v rotates_S128x2048_d0) slices_S128x2048_o8_0_S120x2048⟩]
    concatenates_S8x2048_S120x2048_S128x2048_d0

theorem shifted_at (v : FVec Ideal S128x2048 .f32) (p : FVec Ideal S8x2048 .f32) (s : ℕ) (h0 : 0 < s) (h8 : s < 8) (r : Fin 128) (k : Fin 2048) :
    shifted v p (BitVec.ofNat 32 s) (ix2 r k)
      = if h : r.val < s then p (ix2 ⟨8 + r.val - s, by omega⟩ k) else v (ix2 ⟨r.val - s, by have := r.isLt; omega⟩ k) := by
  have hr := r.isLt
  have hs : (BitVec.ofNat 32 s).toNat = s := by rw [BitVec.toNat_ofNat]; omega
  pointwise [shifted]
  by_cases h : r.val < 8
  · rw [dif_pos h, WordCmp.cmpi_slt_ofNat (by omega) (by omega), WordCmp.select_decide]
    by_cases h' : r.val < s
    · rw [if_pos h', dif_pos h']
      exact congrArg (fun q => p (ix2 q k)) (Fin.ext (by show (r.val + 8 - (BitVec.ofNat 32 s).toNat % 8) % 8 = 8 + r.val - s; omega))
    · rw [if_neg h', dif_neg h']
      exact congrArg (fun q => v (ix2 q k)) (Fin.ext (by show (r.val + 128 - (BitVec.ofNat 32 s).toNat % 128) % 128 = r.val - s; omega))
  · rw [dif_neg h, dif_neg (by omega)]
    exact congrArg (fun q => v (ix2 q k)) (Fin.ext (by
      show (8 + (r.val - 8) + 128 - (BitVec.ofNat 32 s).toNat % 128) % 128 = r.val - s; omega))

/-- Row `r - s` of sequences of 128 rows, before a sequence's start the rows handed over. -/
def back (x : FVec Ideal S1024x10240 .f32) (p : FVec Ideal S8x3x10240 .f32) (s : Fin 4) (r : Fin 1024) (n : Fin 10240) : EReal :=
  if h : r.val % 128 < s.val then p (ix3 ⟨r.val / 128, by omega⟩ ⟨3 + r.val % 128 - s.val, by omega⟩ n)
  else x (ix2 ⟨r.val - s.val, by omega⟩ n)

/-- The convolution at a row and column, before the gate. -/
def conv (x : FVec Ideal S1024x10240 .f32) (p : FVec Ideal S8x3x10240 .f32) (w : FVec Ideal S2x4x10240 .f32)
    (b : FVec Ideal S2x10240 .f32) (r : Fin 1024) (n : Fin 10240) : EReal :=
  b (ix2 0 n) + (back x p 3 r n * w (ix3 0 0 n) + back x p 2 r n * w (ix3 0 1 n) + back x p 1 r n * w (ix3 0 2 n) + x (ix2 r n) * w (ix3 0 3 n))

/-- The result over the arguments. -/
def ACT (x : FVec Ideal S1024x10240 .f32) (p : FVec Ideal S8x3x10240 .f32) (w : FVec Ideal S2x4x10240 .f32)
    (b : FVec Ideal S2x10240 .f32) : FVec Ideal S1024x10240 .bf16 :=
  fun i => Cert.Kernel9Ideal.Conv.silu (conv x p w b ⟨(i 0).val, (i 0).isLt⟩ ⟨(i 1).val, (i 1).isLt⟩)

theorem idx : ∀ t : Fin cfg0.N, win0_0.index t = ![t.val / 5, t.val % 5] ∧ win0_1.index t = ![t.val / 5, 0, t.val % 5]
    ∧ win0_2.index t = ![0, t.val % 5] ∧ win0_3.index t = ![0, t.val % 5] ∧ win0_4.index t = ![t.val / 5, t.val % 5] :=
  (by decide +kernel : ∀ t : Fin grid0.N, _)

section Kernel
variable (m : (ℓ : Loc nD τ sig) → Buf (Elt Ideal) ℓ) (c : Dev nD)

theorem filter : V m c main_v2 = fun j => m ((c.tc : Thread nD τ).loc main_arg2) (ix3 0 (j 0) (j 1)) := by
  unfold V
  simp only [List.flatten, List.append_eq, List.append_assoc, List.cons_append, List.nil_append, hostOps0, hostOps0_1, hostOps0_2,
    StableHlo.TRef.binary, StableHlo.TRef.unary, StableHlo.TRef.toBuf, StableHlo.TRef.ofBuf, cast_eq]
  after_results_simp
  funext j
  idx_vars j
  pointwise

theorem bias : V m c main_v5 = fun j => m ((c.tc : Thread nD τ).loc main_arg3) (ix2 0 (j 1)) := by
  unfold V
  simp only [List.flatten, List.append_eq, List.append_assoc, List.cons_append, List.nil_append, hostOps0, hostOps0_1, hostOps0_2,
    StableHlo.TRef.binary, StableHlo.TRef.unary, StableHlo.TRef.toBuf, StableHlo.TRef.ofBuf, cast_eq]
  after_results_simp
  funext j
  idx_vars j
  pointwise

/-- The rows handed over, eight a sequence as the call finds them. -/
def HANDED (p : FVec Ideal S8x3x10240 .f32) : FVec Ideal S8x8x10240 .f32 :=
  pad S8x8x10240 ![0, 5, 0] ![0, 0, 0] ![0, 0, 0] p (sitofp .f32 (constantI S_ 32 0#32)) pads_S8x3x10240_S8x8x10240_000_500_000 h_S_

theorem handed : V m c main_v0 = HANDED (m ((c.tc : Thread nD τ).loc main_arg1)) := by
  unfold V
  simp only [List.flatten, List.append_eq, List.append_assoc, List.cons_append, List.nil_append, hostOps0, hostOps0_1, hostOps0_2,
    StableHlo.TRef.binary, StableHlo.TRef.unary, StableHlo.TRef.toBuf, StableHlo.TRef.ofBuf, cast_eq]
  after_results_simp <;> rfl

theorem kept : (V m c main_arg0 = m ((c.tc : Thread nD τ).loc main_arg0) ∧ V m c main_arg1 = m ((c.tc : Thread nD τ).loc main_arg1))
    ∧ V m c main_arg2 = m ((c.tc : Thread nD τ).loc main_arg2) ∧ V m c main_arg3 = m ((c.tc : Thread nD τ).loc main_arg3) := by
  refine ⟨⟨?_, ?_⟩, ?_, ?_⟩ <;> (
    unfold V
    simp only [List.flatten, List.append_eq, List.append_assoc, List.cons_append, List.nil_append, hostOps0, hostOps0_1, hostOps0_2,
      StableHlo.TRef.binary, StableHlo.TRef.unary, StableHlo.TRef.toBuf, StableHlo.TRef.ofBuf, cast_eq]
    after_results_simp)

/-- The row and the column of a tile's entry, and its sequence. -/
abbrev row (t : Fin cfg0.N) (r : Fin 128) : Fin 1024 := ⟨t.val / 5 * 128 + r.val, by have : t.val < 40 := t.isLt; omega⟩
abbrev col (t : Fin cfg0.N) (k : Fin 2048) : Fin 10240 := ⟨t.val % 5 * 2048 + k.val, by omega⟩
abbrev sq (t : Fin cfg0.N) : Fin 8 := ⟨t.val / 5, by have : t.val < 40 := t.isLt; omega⟩

theorem filter_at (t : Fin cfg0.N) (a : Fin 4) (k : Fin 2048) :
    iblk m c 2 t (ix2 a k) = m ((c.tc : Thread nD τ).loc main_arg2) (ix3 0 a (col t k)) := by
  refine Eq.trans ?_ (congrFun (filter m c) (ix2 a (col t k)))
  blk_ext [iblk, idx t]

theorem bias_at (t : Fin cfg0.N) (k : Fin 2048) :
    iblk m c 3 t (ix2 0 k) = m ((c.tc : Thread nD τ).loc main_arg3) (ix2 0 (col t k)) := by
  refine Eq.trans ?_ (congrFun (bias m c) (ix2 0 (col t k)))
  blk_ext [iblk, idx t]

theorem tile_at (t : Fin cfg0.N) (r : Fin 128) (k : Fin 2048) :
    iblk m c 0 t (ix2 r k) = m ((c.tc : Thread nD τ).loc main_arg0) (ix2 (row t r) (col t k)) := by
  refine Eq.trans ?_ (congrFun (kept m c).1.1 (ix2 (row t r) (col t k)))
  blk_ext [iblk, idx t]

/-- The last three of the eight rows before a tile are the sequence's rows handed over. -/
theorem prev_at (t : Fin cfg0.N) (e : Fin 3) (k : Fin 2048) :
    k0_pay3 (iblk m c 1 t) (ix2 ⟨5 + e.val, by omega⟩ k) = m ((c.tc : Thread nD τ).loc main_arg1) (ix3 (sq t) e (col t k)) := by
  have h : iblk m c 1 t (ix3 0 ⟨5 + e.val, by omega⟩ k) = V m c main_v0 (ix3 (sq t) ⟨5 + e.val, by omega⟩ (col t k)) := by
    blk_ext [iblk, idx t]
  refine Eq.trans (b := iblk m c 1 t (ix3 0 ⟨5 + e.val, by omega⟩ k)) (by pointwise [k0_pay3]) ?_
  rw [h, handed]
  pointwise [HANDED]
  exact dif_pos ⟨(sq t).isLt, (col t k).isLt⟩

/-- A tile moved down is the rows moved down. -/
theorem moved_at (t : Fin cfg0.N) (s : Fin 4) (h0 : 0 < s.val) (r : Fin 128) (k : Fin 2048) :
    shifted (iblk m c 0 t) (k0_pay3 (iblk m c 1 t)) (BitVec.ofNat 32 s.val) (ix2 r k)
      = back (m ((c.tc : Thread nD τ).loc main_arg0)) (m ((c.tc : Thread nD τ).loc main_arg1)) s (row t r) (col t k) := by
  have ht : t.val < 40 := t.isLt
  have hr := r.isLt
  have hs := s.isLt
  rw [shifted_at _ _ s.val h0 (by omega)]
  unfold back
  by_cases h : r.val < s.val
  · rw [dif_pos h, dif_pos (show (t.val / 5 * 128 + r.val) % 128 < s.val by omega)]
    refine (congrArg (fun q => k0_pay3 (iblk m c 1 t) (ix2 q k)) (Fin.ext (by show 8 + r.val - s.val = 5 + (3 + r.val - s.val); omega))).trans
      ((prev_at m c t ⟨3 + r.val - s.val, by omega⟩ k).trans ?_)
    exact congrArg₂ (fun a b => m ((c.tc : Thread nD τ).loc main_arg1) (ix3 a b (col t k)))
      (Fin.ext (by show t.val / 5 = (t.val / 5 * 128 + r.val) / 128; omega))
      (Fin.ext (by show 3 + r.val - s.val = 3 + (t.val / 5 * 128 + r.val) % 128 - s.val; omega))
  · rw [dif_neg h, dif_neg (show ¬ (t.val / 5 * 128 + r.val) % 128 < s.val by omega), tile_at]
    exact congrArg (fun a => m ((c.tc : Thread nD τ).loc main_arg0) (ix2 a (col t k))) (Fin.ext (by
      show t.val / 5 * 128 + (r.val - s.val) = t.val / 5 * 128 + r.val - s.val; omega))

/-- The sum of a tile and its shifts, in the kernel's order. -/
def sum (v : FVec Ideal S128x2048 .f32) (p : FVec Ideal S8x2048 .f32) (w : FVec Ideal S4x2048 .f32) (b : FVec Ideal S1x2048 .f32)
    (r : Fin 128) (k : Fin 2048) : EReal :=
  b (ix2 0 k) + v (ix2 r k) * w (ix2 3 k) + shifted v p 1#32 (ix2 r k) * w (ix2 2 k) + shifted v p 2#32 (ix2 r k) * w (ix2 1 k)
    + shifted v p 3#32 (ix2 r k) * w (ix2 0 k)

theorem sum_at (t : Fin cfg0.N) (r : Fin 128) (k : Fin 2048) : sum (iblk m c 0 t) (k0_pay3 (iblk m c 1 t)) (iblk m c 2 t) (iblk m c 3 t) r k
    = conv (m ((c.tc : Thread nD τ).loc main_arg0)) (m ((c.tc : Thread nD τ).loc main_arg1)) (m ((c.tc : Thread nD τ).loc main_arg2)) (m ((c.tc : Thread nD τ).loc main_arg3)) (row t r) (col t k) := by
  have e1 := moved_at m c t 1 (by decide) r k
  have e2 := moved_at m c t 2 (by decide) r k
  have e3 := moved_at m c t 3 (by decide) r k
  unfold sum conv
  refine (congrArg₂ (fun a b : EReal => a + b) (congrArg₂ (fun a b : EReal => a + b) (congrArg₂ (fun a b : EReal => a + b)
    (congrArg₂ (fun a b : EReal => a + b) (bias_at m c t k) (congrArg₂ (fun a b : EReal => a * b) (tile_at m c t r k) (filter_at m c t 3 k)))
    (congrArg₂ (fun a b : EReal => a * b) e1 (filter_at m c t 2 k))) (congrArg₂ (fun a b : EReal => a * b) e2 (filter_at m c t 1 k)))
    (congrArg₂ (fun a b : EReal => a * b) e3 (filter_at m c t 0 k))).trans ?_
  abel

theorem final : (dats m 0 c).arrAt 4 (cfgs 0).N
    = ACT (m ((c.tc : Thread nD τ).loc main_arg0)) (m ((c.tc : Thread nD τ).loc main_arg1)) (m ((c.tc : Thread nD τ).loc main_arg2)) (m ((c.tc : Thread nD τ).loc main_arg3)) := by
  unfold ACT
  refine (dats m 0 c).arrAt_eq_of_covers 4 _ (by decide +kernel) fun t hf' y => ?_
  blk_simp
  rw [after0_4]
  unfold outsAt0
  frame_out
  idx_vars y
  refine Eq.trans (b := sum (iblk m c 0 t) (k0_pay3 (iblk m c 1 t)) (iblk m c 2 t) (iblk m c 3 t) y0 y1
      * Ideal.div 1 (1 + Ideal.exp2 (sum (iblk m c 0 t) (k0_pay3 (iblk m c 1 t)) (iblk m c 2 t) (iblk m c 3 t) y0 y1 * (Named.named κ "neg_log2e" 3216550459#32 : Ideal .f32))))
    (by pointwise [k0_pay1, k0_pay4, k0_pay5, sum, shifted] <;> rfl) ?_
  rw [sum_at, show (Named.named κ "neg_log2e" 3216550459#32 : Ideal .f32) = ((-Cert.KernelIdeal.Value.ln2i : ℝ) : EReal) from rfl]
  refine (congrArg (fun z => _ * Ideal.div 1 (1 + z)) (Cert.KernelIdeal.Value.exp2_neg _)).trans ?_
  refine Eq.trans (b := Cert.Kernel9Ideal.Conv.silu (conv (m ((c.tc : Thread nD τ).loc main_arg0)) (m ((c.tc : Thread nD τ).loc main_arg1)) (m ((c.tc : Thread nD τ).loc main_arg2)) (m ((c.tc : Thread nD τ).loc main_arg3)) (row t y0) (col t y1))) rfl ?_
  have e5 := (idx t).2.2.2.2
  refine congrArg Cert.Kernel9Ideal.Conv.silu (congrArg₂ (conv _ _ _ _) (Fin.ext ?_) (Fin.ext ?_))
  · show t.val / 5 * 128 + y0.val = win0_4.index t 0 * 128 + y0.val
    rw [e5]; rfl
  · show t.val % 5 * 2048 + y1.val = win0_4.index t 1 * 2048 + y1.val
    rw [e5]; rfl

end Kernel

/-- A row of the reference's joined sequences is a row moved down. -/
theorem back_eq {x : FVec Ideal S1024x10240 .f32} {p : FVec Ideal S8x3x10240 .f32} {s : Fin 4} {r : Fin 1024} {n : Fin 10240} {P : Prop} [Decidable P]
    (hP : P ↔ r.val % 128 < s.val) {D : P → EReal} {E : ¬ P → EReal} (g : P → Fin 3) (hg : ∀ h, (g h).val = 3 + r.val % 128 - s.val)
    (hD : ∀ h, D h = p (ix3 ⟨r.val / 128, by omega⟩ (g h) n))
    (q : ¬ P → Fin 1024) (hq : ∀ h, (q h).val = r.val - s.val) (hE : ∀ h, E h = x (ix2 (q h) n)) :
    (if h : P then D h else E h) = back x p s r n := by
  unfold back
  by_cases h : P
  · rw [dif_pos h, dif_pos (hP.1 h), hD h]
    exact congrArg (fun a => p (ix3 _ a n)) (Fin.ext (hg h))
  · rw [dif_neg h, dif_neg (fun h' => h (hP.2 h')), hE h]
    exact congrArg (fun a => x (ix2 a n)) (Fin.ext (hq h))

variable (m : (ℓ : Loc Cert.Reference22Ideal.nD Cert.Reference22Ideal.τ Cert.Reference22Ideal.sig) → Buf (Elt Ideal) ℓ) (c : Dev Cert.Reference22Ideal.nD)

/-- Every sequence after the rows handed over. -/
abbrev JOINED (x : FVec Ideal Cert.Reference22Ideal.S1024x10240 .f32) (p : FVec Ideal Cert.Reference22Ideal.S8x3x10240 .f32) : FVec Ideal Cert.Reference22Ideal.S8x131x10240 .f32 :=
  concatenate Cert.Reference22Ideal.S8x131x10240 1 [⟨Cert.Reference22Ideal.S8x3x10240, p⟩, ⟨Cert.Reference22Ideal.S8x128x10240, shapeCast _ x Cert.Reference22Ideal.Gen.shapeCasts_S1024x10240_S8x128x10240⟩]
    Cert.Reference22Ideal.Gen.concatenates_S8x3x10240_S8x128x10240_S8x131x10240_d1

theorem joined_at (x : FVec Ideal Cert.Reference22Ideal.S1024x10240 .f32) (p : FVec Ideal Cert.Reference22Ideal.S8x3x10240 .f32) (b : Fin 8) (q : Fin 131) (n : Fin 10240) :
    JOINED x p (ix3 b q n) = if h : q.val < 3 then p (ix3 b ⟨q.val, h⟩ n) else x (ix2 ⟨b.val * 128 + (q.val - 3), by omega⟩ n) := by
  pointwise [JOINED]

/-- The reference's result at a row and column. -/
theorem ref_at (r : Fin 1024) (n : Fin 10240) : Cert.Reference22Ideal.Value.res_out0 m c (ix2 r n)
    = Cert.Kernel9Ideal.Conv.silu (conv (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))
      (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) r n) := by
  unfold Cert.Reference22Ideal.Value.res_out0 Cert.Reference22Ideal.Value.res_main_v38
  generalize hj : concatenate Cert.Reference22Ideal.S8x131x10240 1 _ _ = j
  have e (b : Fin 8) (q : Fin 131) (n : Fin 10240) := (congrFun hj (ix3 b q n)).symm.trans (joined_at _ _ b q n)
  clear hj
  pointwise
  unfold conv
  simp only [e]
  refine congrArg Cert.Kernel9Ideal.Conv.silu (congrArg₂ (fun a b : EReal => a + b) rfl (congrArg₂ (fun a b : EReal => a + b) (congrArg₂ (fun a b : EReal => a + b)
    (congrArg₂ (fun a b : EReal => a + b) (congrArg (fun a : EReal => a * _) ?_) (congrArg (fun a : EReal => a * _) ?_))
    (congrArg (fun a : EReal => a * _) ?_)) (congrArg (fun a : EReal => a * _) ?_)))
  · exact back_eq (by omega) (fun h => ⟨r.val % 128, by omega⟩) (fun h => by show r.val % 128 = _ - 3; omega) (fun h => rfl)
      (fun h => ⟨r.val / 128 * 128 + (r.val % 128 - 3), by omega⟩) (fun h => by show r.val / 128 * 128 + (r.val % 128 - 3) = r.val - 3; omega) (fun h => rfl)
  · exact back_eq (by omega) (fun h => ⟨1 + r.val % 128, by omega⟩) (fun h => by show 1 + r.val % 128 = _ - 2; omega) (fun h => rfl)
      (fun h => ⟨r.val / 128 * 128 + (1 + r.val % 128 - 3), by omega⟩) (fun h => by show r.val / 128 * 128 + (1 + r.val % 128 - 3) = r.val - 2; omega) (fun h => rfl)
  · exact back_eq (by omega) (fun h => ⟨2 + r.val % 128, by omega⟩) (fun h => by show 2 + r.val % 128 = _ - 1; omega) (fun h => rfl)
      (fun h => ⟨r.val / 128 * 128 + (2 + r.val % 128 - 3), by omega⟩) (fun h => by show r.val / 128 * 128 + (2 + r.val % 128 - 3) = r.val - 1; omega) (fun h => rfl)
  · exact (dif_neg (by omega)).trans (congrArg (fun a => m ((c.tc : Thread Cert.Reference22Ideal.nD Cert.Reference22Ideal.τ).loc Cert.Reference22Ideal.main_arg0) (ix2 a n)) (Fin.ext (by show r.val / 128 * 128 + (3 + r.val % 128 - 3) = r.val; omega)))

theorem ref_eq : Cert.Reference22Ideal.Value.res_out0 m c = ACT (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))
    (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) := by
  funext i
  idx_vars i
  exact ref_at m c i0 i1

end Cert.Kernel22Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_logits_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.BitsConv
public import proofs.«01_k».proof.Proof.Conv
public import proofs.«01_k».proof.Proof.RefAt
public import proofs.«01_k».proof.Proof.Pre
public import proofs.«01_k».proof.Proof.Final
public import proofs.«01_k».proof.Proof.SsdZ
public import proofs.«01_k».proof.Proof.FoxQ
public import proofs.«01_k».proof.Proof.FoxZ
public import proofs.«01_k».proof.Proof.SsdOut
public import proofs.«01_k».proof.Proof.FoxOut
public import proofs.«01_k».proof.Proof.FoxK
public import proofs.«01_k».proof.Proof.FoxV
public import proofs.«01_k».proof.Proof.Logf
public import proofs.«01_k».proof.Proof.LogfS
public import proofs.«01_k».proof.Proof.FoxKS
public import proofs.«01_k».proof.Proof.FoxVS
public import proofs.«01_k».proof.Proof.SsdXbcS
public import proofs.«01_k».proof.Proof.SsdDt
public import proofs.«01_k».proof.Proof.Norm
public import proofs.«01_k».proof.Proof.NormS
public import proofs.«01_k».proof.Proof.NormMod
public import proofs.«01_k».proof.Proof.NormModS
public import proofs.«01_k».proof.Proof.AdaMod
public import proofs.«01_k».proof.Proof.CumSum
public import proofs.«01_k».proof.Proof.ConvS
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

open Cert.Online in
/-- The reference's term is the formula the kernel's result array holds. -/
theorem ref_goal (q k v z : FVec Ideal Cert.ReferenceIdeal.S8192x4096 .bf16) (f : FVec Ideal Cert.ReferenceIdeal.S4x2048x32 .f32)
    (q' k' : Fin 8192 → Fin 4096 → ℝ) (f' : Fin 4 → Fin 2048 → Fin 32 → ℝ)
    (hq : ∀ r e, q (ix2 r e) = (q' r e : EReal)) (hk : ∀ r e, k (ix2 r e) = (k' r e : EReal))
    (hf : ∀ b r h, f (ix3 b r h) = (f' b r h : EReal)) :
    Cert.ReferenceIdeal.Value.REF q k v z f
      = Cert.KernelIdeal.Value.GOAL q' k' f' (fun r c => v (ix2 r c)) (fun r c => z (ix2 r c)) := by
  funext i
  idx_vars i
  have e0 : i0 = row ⟨i0.val / 2048, by omega⟩ ⟨i0.val % 2048, by omega⟩ :=
    Fin.ext (by show i0.val = i0.val / 2048 * 2048 + i0.val % 2048; omega)
  have e1 : i1 = col ⟨i1.val / 128, by omega⟩ ⟨i1.val % 128, by omega⟩ :=
    Fin.ext (by show i1.val = i1.val / 128 * 128 + i1.val % 128; omega)
  rw [e0, e1, Cert.ReferenceIdeal.Value.ref_att _ _ _ _ q k v z f q' k' f' hq hk hf]
  exact (Cert.KernelIdeal.Value.goal_at q' k' f' _ _ _ _ _ _ _ rfl rfl).symm

theorem algebraic : Cert.algebraic_KernelIdeal_ReferenceIdeal_pre_logits_finite := by
  pair_intro
  · run_from Cert.KernelIdeal.Gen.run_main m g
  · run_from Cert.ReferenceIdeal.Value.run m' g'
    obtain ⟨hq, hk, hf⟩ := Cert.Pre.real _ _ _ _ _ (hpre c)
    obtain ⟨a0, a1, a2, a3, a4⟩ := hagree c
    unfold Cert.ReferenceIdeal.Value.res_main_v42
    rw [a0, a1, a2, a3, a4, Cert.KernelIdeal.Value.final m c _ _ _ (fun r e => hq (ix2 r e)) (fun r e => hk (ix2 r e))
      (fun b r h => hf (ix3 b r h))]
    exact ref_goal _ _ _ _ _ _ _ _ (fun r e => hq (ix2 r e)) (fun r e => hk (ix2 r e)) (fun b r h => hf (ix3 b r h))

theorem algebraic_2 : Cert.algebraic_Kernel2Ideal_Reference2Ideal := by
  pair_intro
  · run_from Cert.Kernel2Ideal.Gen.run_main m g
  · run_from Cert.Reference2Ideal.Value.run m' g'
    exact (Cert.Kernel2Ideal.Value.final m c).symm

theorem algebraic_3 : Cert.algebraic_Kernel3Ideal_Reference3Ideal := by
  pair_intro
  · run_from Cert.Kernel3Ideal.Gen.run_main m g
  · run_from Cert.Reference3Ideal.Value.run m' g'
    exact (Cert.Kernel3Ideal.Value.final m c).symm

theorem algebraic_4 : Cert.algebraic_Kernel4Ideal_Reference4Ideal := by
  pair_intro
  · run_from Cert.Kernel4Ideal.Gen.run_main m g
  · run_from Cert.Reference4Ideal.Value.run m' g'
    exact (Cert.Kernel4Ideal.Value.final m c).symm

theorem algebraic_5 : Cert.algebraic_Kernel5Ideal_Reference5Ideal := by
  pair_intro
  · run_from Cert.Kernel5Ideal.Gen.run_main m g
  · run_from Cert.Reference5Ideal.Value.run m' g'
    exact (Cert.Kernel5Ideal.Value.final m c).symm

theorem algebraic_6 : Cert.algebraic_Kernel6Ideal_Reference6Ideal := by
  pair_intro
  · run_from Cert.Kernel6Ideal.Gen.run_main m g
  · run_from Cert.Reference6Ideal.Value.run m' g'
    exact (Cert.Kernel6Ideal.Value.final m c).symm

theorem algebraic_7 : Cert.algebraic_Kernel7Ideal_Reference7Ideal := by
  pair_intro
  · run_from Cert.Kernel7Ideal.Gen.run_main m g
  · run_from Cert.Reference7Ideal.Value.run m' g'
    · rw [(hagree c).2.2, Cert.Kernel7Ideal.Value.final m c]
    · exact (Cert.Kernel7Ideal.Value.final16 m c).symm

theorem algebraic_8 : Cert.algebraic_Kernel8Ideal_Reference8Ideal := by
  pair_intro
  · run_from Cert.Kernel8Ideal.Gen.run_main m g
  · run_from Cert.Reference8Ideal.Value.run m' g'
    · rw [(hagree c).2.2, Cert.Kernel8Ideal.Value.final m c]
    · exact (Cert.Kernel8Ideal.Value.final16 m c).symm

theorem algebraic_9 : Cert.algebraic_Kernel9Ideal_Reference9Ideal := by
  pair_intro
  · run_from Cert.Kernel9Ideal.Conv.run m g
  · run_from Cert.Kernel9Ideal.Conv.ref_run m' g'

theorem algebraic_10 : Cert.algebraic_Kernel10Ideal_Reference10Ideal := by
  pair_intro
  · run_from Cert.Kernel10Ideal.Gen.run_main m g
    · exact (Cert.Kernel10Ideal.Value.kept m c).1
    · exact (Cert.Kernel10Ideal.Value.kept m c).2
  · run_from Cert.Reference10Ideal.Value.run m' g'
    obtain ⟨a0, a1, a2⟩ := hagree c
    unfold Cert.Reference10Ideal.Value.res_main_v15
    rw [a0, a1, a2]
    exact (Cert.Kernel10Ideal.Value.final m c).symm

theorem algebraic_11 : Cert.algebraic_Kernel11Ideal_Reference11Ideal := by
  pair_intro
  · run_from Cert.Kernel11Ideal.Gen.run_main m g
  · run_from Cert.Reference11Ideal.Value.run m' g'
    · exact (Cert.Kernel11Ideal.Value.final m c).symm
    · exact (Cert.Kernel11Ideal.Value.final16 m c).symm

theorem algebraic_12 : Cert.algebraic_Kernel12Ideal_Reference12Ideal := by
  pair_intro
  · run_from Cert.Kernel12Ideal.Gen.run_main m g
  · run_from Cert.Reference12Ideal.Value.run m' g'
    · exact (Cert.Kernel12Ideal.Value.final m c).symm
    · exact (Cert.Kernel12Ideal.Value.final16 m c).symm

theorem algebraic_13 : Cert.algebraic_Kernel13Ideal_Reference13Ideal := by
  pair_intro
  · run_from Cert.Kernel13Ideal.Gen.run_main m g
    · exact (Cert.Kernel13Ideal.Value.kept m c).1
    · exact (Cert.Kernel13Ideal.Value.kept m c).2
  · run_from Cert.Reference13Ideal.Value.run m' g'
    obtain ⟨a0, a1, a2⟩ := hagree c
    unfold Cert.Reference13Ideal.Value.res_main_v15
    rw [a0, a1, a2]
    exact (Cert.Kernel13Ideal.Value.final m c).symm

theorem algebraic_14 : Cert.algebraic_Kernel14Ideal_Reference14Ideal := by
  pair_intro
  · run_from Cert.Kernel14Ideal.Gen.run_main m g
  · run_from Cert.Reference14Ideal.Value.run m' g'
    exact (Cert.Kernel14Ideal.Value.final m c).symm

theorem algebraic_15 : Cert.algebraic_Kernel15Ideal_Reference15Ideal := by
  pair_intro
  · run_from Cert.Kernel15Ideal.Gen.run_main m g
  · run_from Cert.Reference15Ideal.Value.run m' g'
    exact (Cert.Kernel15Ideal.Value.final m c).symm

theorem algebraic_16 : Cert.algebraic_Kernel16Ideal_Reference16Ideal := by
  pair_intro
  · run_from Cert.Kernel16Ideal.Gen.run_main m g
  · run_from Cert.Reference16Ideal.Value.run m' g'
    exact (Cert.Kernel16Ideal.Value.final m c).symm

theorem algebraic_17 : Cert.algebraic_Kernel17Ideal_Reference17Ideal := by
  pair_intro
  · run_from Cert.Kernel17Ideal.Gen.run_main m g
  · run_from Cert.Reference17Ideal.Value.run m' g'
    exact (Cert.Kernel17Ideal.Value.final m c).symm

theorem algebraic_18 : Cert.algebraic_Kernel18Ideal_Reference18Ideal := by
  pair_intro
  · run_from Cert.Kernel18Ideal.Gen.run_main m g
  · run_from Cert.Reference18Ideal.Value.run m' g'
    exact (Cert.Kernel18Ideal.Value.final m c).symm

theorem algebraic_19 : Cert.algebraic_Kernel19Ideal_Reference19Ideal := by
  pair_intro
  · run_from Cert.Kernel19Ideal.Gen.run_main m g
  · run_from Cert.Reference19Ideal.Value.run m' g'
    exact (Cert.Kernel19Ideal.Value.final m c).symm

theorem algebraic_20 : Cert.algebraic_Kernel20Ideal_Reference20Ideal := by
  pair_intro
  · run_from Cert.Kernel20Ideal.Gen.run_main m g
  · run_from Cert.Reference20Ideal.Value.run m' g'
    exact (Cert.Kernel20Ideal.Value.final m c).symm

theorem algebraic_21 : Cert.algebraic_Kernel21Ideal_Reference21Ideal := by
  pair_intro
  · run_from Cert.Kernel21Ideal.Gen.run_main m g
  · refine (θ_run Cert.Reference21Ideal.defs _ _).mono (fun r h c => ⟨?_, (h c).2⟩) (Cert.Reference21Ideal.Value.run m' g')
    exact (h c).1.trans ((congrArg Cert.Kernel21Ideal.Value.REF (hagree c)).trans (Cert.Kernel21Ideal.Value.final m c).symm)

theorem algebraic_22 : Cert.algebraic_Kernel22Ideal_Reference22Ideal := by
  pair_intro
  · run_from Cert.Kernel22Ideal.Gen.run_main m g
    · exact (Cert.Kernel22Ideal.Value.kept m c).1.2
    · exact (Cert.Kernel22Ideal.Value.kept m c).2.1
    · exact (Cert.Kernel22Ideal.Value.kept m c).2.2
  · refine (θ_run Cert.Reference22Ideal.defs _ _).mono (fun r h c => ⟨?_, (h c).2⟩) (Cert.Reference22Ideal.Value.run m' g')
    obtain ⟨a0, a1, a2, a3⟩ := hagree c
    refine (h c).1.trans ((Cert.Kernel22Ideal.Value.ref_eq m' c).trans ?_)
    rw [a0, a1, a2, a3]
    exact (Cert.Kernel22Ideal.Value.final m c).symm

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem frame_8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem frame_9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem frame_10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

theorem frame_12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem frame_13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem frame_14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem frame_15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem frame_16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem frame_17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem frame_18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem frame_19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem frame_20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem frame_21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem frame_22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Pre_logits_finite.Gen.facts,
  fun m ρ _ => Cert.Kernel.Gen.frame m ρ, fun m ρ _ => Cert.KernelIdeal.Gen.frame m ρ, fun m ρ _ => Cert.KernelIdeal.Gen.frame m ρ, frame_ri,
  fun m ρ _ => frame_ri m ρ trivial, fun m ρ _ => Cert.Kernel2.Gen.frame m ρ, fun m ρ _ => Cert.Kernel2Ideal.Gen.frame m ρ, frame_2,
  fun m ρ _ => Cert.Kernel3.Gen.frame m ρ, fun m ρ _ => Cert.Kernel3Ideal.Gen.frame m ρ, frame_3, fun m ρ _ => Cert.Kernel4.Gen.frame m ρ,
  fun m ρ _ => Cert.Kernel4Ideal.Gen.frame m ρ, frame_4, fun m ρ _ => Cert.Kernel5.Gen.frame m ρ,
  fun m ρ _ => Cert.Kernel5Ideal.Gen.frame m ρ, frame_5, fun m ρ _ => Cert.Kernel6.Gen.frame m ρ,
  fun m ρ _ => Cert.Kernel6Ideal.Gen.frame m ρ, frame_6, fun m ρ _ => Cert.Kernel7.Gen.frame m ρ,
  fun m ρ _ => Cert.Kernel7Ideal.Gen.frame m ρ, frame_7, fun m ρ _ => Cert.Kernel8.Gen.frame m ρ,
  fun m ρ _ => Cert.Kernel8Ideal.Gen.frame m ρ, frame_8, fun m ρ _ => Cert.Kernel9.Conv.frame m ρ,
  fun m ρ _ => Cert.Kernel9Ideal.Conv.frame m ρ, frame_9,
  fun m ρ _ => Cert.Kernel10.Gen.frame m ρ, fun m ρ _ => Cert.Kernel10Ideal.Gen.frame m ρ, frame_10,
  fun m ρ _ => Cert.Kernel11.Gen.frame m ρ, fun m ρ _ => Cert.Kernel11Ideal.Gen.frame m ρ, frame_11,
  fun m ρ _ => Cert.Kernel12.Gen.frame m ρ, fun m ρ _ => Cert.Kernel12Ideal.Gen.frame m ρ, frame_12,
  fun m ρ _ => Cert.Kernel13.Gen.frame m ρ, fun m ρ _ => Cert.Kernel13Ideal.Gen.frame m ρ, frame_13,
  fun m ρ _ => Cert.Kernel14.Gen.frame m ρ, fun m ρ _ => Cert.Kernel14Ideal.Gen.frame m ρ, frame_14,
  fun m ρ _ => Cert.Kernel15.Gen.frame m ρ, fun m ρ _ => Cert.Kernel15Ideal.Gen.frame m ρ, frame_15,
  fun m ρ _ => Cert.Kernel16.Gen.frame m ρ, fun m ρ _ => Cert.Kernel16Ideal.Gen.frame m ρ, frame_16,
  fun m ρ _ => Cert.Kernel17.Gen.frame m ρ, fun m ρ _ => Cert.Kernel17Ideal.Gen.frame m ρ, frame_17,
  fun m ρ _ => Cert.Kernel18.Gen.frame m ρ, fun m ρ _ => Cert.Kernel18Ideal.Gen.frame m ρ, frame_18,
  fun m ρ _ => Cert.Kernel19.Gen.frame m ρ, fun m ρ _ => Cert.Kernel19Ideal.Gen.frame m ρ, frame_19,
  fun m ρ _ => Cert.Kernel20.Gen.frame m ρ, fun m ρ _ => Cert.Kernel20Ideal.Gen.frame m ρ, frame_20,
  fun m ρ _ => Cert.Kernel21.Gen.frame m ρ, fun m ρ _ => Cert.Kernel21Ideal.Gen.frame m ρ, frame_21,
  fun m ρ _ => Cert.Kernel22.Gen.frame m ρ, fun m ρ _ => Cert.Kernel22Ideal.Gen.frame m ρ, frame_22,
  ⟨IdealRules.named_const.statement _ _ _ _ _ rfl, IdealRules.named_const.statement _ _ _ _ _ rfl,
    IdealRules.named_const.statement _ _ _ _ _ rfl⟩,
  algebraic, trivial, algebraic_2, trivial, algebraic_3, trivial, algebraic_4, trivial, algebraic_5, trivial, algebraic_6, trivial,
  algebraic_7, trivial, algebraic_8,
  IdealRules.named_const.statement _ _ _ _ _ rfl, algebraic_9,
  trivial, algebraic_10, trivial, algebraic_11, trivial, algebraic_12, trivial, algebraic_13,
  trivial, algebraic_14, trivial, algebraic_15, trivial, algebraic_16, trivial, algebraic_17,
  trivial, algebraic_18, trivial, algebraic_19, IdealRules.named_const.statement _ _ _ _ _ rfl, algebraic_20,
  trivial, algebraic_21,
  IdealRules.named_const.statement _ _ _ _ _ rfl, algebraic_22⟩

end Cert.Proof

end
